-- ==== Defs.lean ====
def Pre_Kernel [hPre_rolled_by_17_Kernel : Cert.Pre_rolled_by_17_Kernel.Facts] (m : (ℓ : Loc Cert.Kernel.nD Cert.Kernel.τ Cert.Kernel.sig) → Buf (Elt Bits) ℓ) : Prop :=
  ∀ c : Dev Cert.Kernel.nD,
    (Cert.Pre_rolled_by_17_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_by_17_Kernel : Cert.Pre_rolled_by_17_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_17_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_by_17_ReferenceIdeal [hPre_rolled_by_17_ReferenceIdeal : Cert.Pre_rolled_by_17_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_17_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_by_17_Kernel : Cert.Pre_rolled_by_17_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_by_17_Kernel : Cert.Pre_rolled_by_17_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_17_ReferenceIdeal [hReferenceIdeal : Cert.ReferenceIdeal.Facts] [hPre_rolled_by_17_ReferenceIdeal : Cert.Pre_rolled_by_17_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_17_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_by_17_Kernel : Cert.Pre_rolled_by_17_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![32, 1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = Layout.block ⟨3, ![1, 1024, 1024]⟩ ⟨3, ![32, 1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_by_17_Kernel : Cert.Pre_rolled_by_17_Kernel.Facts) (hPre_rolled_by_17_ReferenceIdeal : Cert.Pre_rolled_by_17_ReferenceIdeal.Facts),
    quiescent_Kernel (hKernel := hKernel) (hPre_rolled_by_17_Kernel := hPre_rolled_by_17_Kernel)
    ∧ quiescent_KernelIdeal (hKernelIdeal := hKernelIdeal) (hPre_rolled_by_17_Kernel := hPre_rolled_by_17_Kernel)
    ∧ quiescent_ReferenceIdeal (hReferenceIdeal := hReferenceIdeal)
    ∧ quiescent_ReferenceIdeal_pre_rolled_by_17_ReferenceIdeal (hReferenceIdeal := hReferenceIdeal) (hPre_rolled_by_17_ReferenceIdeal := hPre_rolled_by_17_ReferenceIdeal)
    ∧ preserves_Kernel_KernelIdeal
    ∧ algebraic_KernelIdeal_ReferenceIdeal (hKernelIdeal := hKernelIdeal) (hReferenceIdeal := hReferenceIdeal) (hPre_rolled_by_17_Kernel := hPre_rolled_by_17_Kernel)
-- ==== Pre_rolled_by_17_Kernel.lean ====
abbrev S1x1024x1024 : Shape := ⟨3, ![1, 1024, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x1024x1024 .f32) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Pre_rolled_by_17_ReferenceIdeal.lean ====
abbrev S32x1024x1024 : Shape := ⟨3, ![32, 1024, 1024]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x1024x1024 .f32) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 32#32
  let main_v3 : IVec S32 32 := broadcastInDim S32 ![] bcast_S_S32 main_c_0
  let main_v4 : IVec S32 32 := Host.remsi main_v2 main_v3
  let main_v5 : IVec S32 1 := cmpi .eq main_arg1 main_v4
  main_v5
-- ==== Kernel.lean ====
abbrev S1x1024x1024 : Shape := ⟨3, ![1, 1024, 1024]⟩
abbrev S32 : Shape := ⟨1, ![32]⟩
abbrev S32x32 : Shape := ⟨2, ![32, 32]⟩
abbrev S_ : Shape := ⟨0, ![]⟩
abbrev S1 : Shape := ⟨1, ![1]⟩
abbrev S1x1 : Shape := ⟨2, ![1, 1]⟩
abbrev S32x1 : Shape := ⟨2, ![32, 1]⟩
abbrev S32x2 : Shape := ⟨2, ![32, 2]⟩
abbrev S4 : Shape := ⟨1, ![4]⟩
abbrev S16 : Shape := ⟨1, ![16]⟩
abbrev S1x64x1024 : Shape := ⟨3, ![1, 64, 1024]⟩

abbrev nBuf : Space → Nat
  | .hbm => 89
  | .vmem => 3
  | .smem => 1
  | _ => 0

abbrev bufTy : (tb : Table) → Fin (tcTables nBuf tb) → BufTy
  | .hbm, ⟨0, _⟩ => ⟨S1x1024x1024, .f32⟩
  | .hbm, ⟨1, _⟩ => ⟨S32, .i32⟩
  | .hbm, ⟨2, _⟩ => ⟨S32x32, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x1, .i32⟩
  | .hbm, ⟨27, _⟩ => ⟨S_, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S32, .i32⟩
  | .hbm, ⟨38, _⟩ => ⟨S32, .i1⟩
  | .hbm, ⟨39, _⟩ => ⟨S_, .i32⟩
  | .hbm, ⟨40, _⟩ => ⟨S32, .i32⟩
  | .hbm, ⟨41, _⟩ => ⟨S32, .i32⟩
  | .hbm, ⟨42, _⟩ => ⟨S32, .i32⟩
  | .hbm, ⟨43, _⟩ => ⟨S32x1, .i32⟩
  | .hbm, ⟨44, _⟩ => ⟨S32x1, .i32⟩
  | .hbm, ⟨45, _⟩ => ⟨S32x2, .i32⟩
  | .hbm, ⟨46, _⟩ => ⟨S32, .i32⟩
  | .hbm, ⟨47, _⟩ => ⟨S32, .i32⟩
  | .hbm, ⟨48, _⟩ => ⟨S32, .i1⟩
  | .hbm, ⟨49, _⟩ => ⟨S32, .i32⟩
  | .hbm, ⟨50, _⟩ => ⟨S_, .i1⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x1, .i32⟩
  | .hbm, ⟨82, _⟩ => ⟨S_, .i32⟩
  | .hbm, ⟨83, _⟩ => ⟨S1, .i32⟩
  | .hbm, ⟨84, _⟩ => ⟨S1, .i32⟩
  | .hbm, ⟨85, _⟩ => ⟨S1, .i32⟩
  | .hbm, ⟨86, _⟩ => ⟨S1, .i32⟩
  | .hbm, ⟨87, _⟩ => ⟨S4, .i32⟩
  | .hbm, ⟨88, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .smem, ⟨0, _⟩ => ⟨S4, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_c_7 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_v19 : Ref sig .tc := ⟨.hbm, 30, rfl⟩
abbrev main_v20 : Ref sig .tc := ⟨.hbm, 31, rfl⟩
abbrev main_c_9 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_10 : Ref sig .tc := ⟨.hbm, 36, rfl⟩
abbrev main_v24 : Ref sig .tc := ⟨.hbm, 37, rfl⟩
abbrev main_v25 : Ref sig .tc := ⟨.hbm, 38, rfl⟩
abbrev main_c_11 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_c : Ref sig .tc := ⟨.hbm, 50, rfl⟩
abbrev main_call0_c_0 : Ref sig .tc := ⟨.hbm, 51, rfl⟩
abbrev main_call0_v1_0 : Ref sig .tc := ⟨.hbm, 52, rfl⟩
abbrev main_v35 : Ref sig .tc := ⟨.hbm, 53, rfl⟩
abbrev main_c_12 : Ref sig .tc := ⟨.hbm, 54, rfl⟩
abbrev main_v36 : Ref sig .tc := ⟨.hbm, 55, rfl⟩
abbrev main_c_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_v0 : Ref sig .tc := ⟨.hbm, 61, rfl⟩
abbrev main_call1_v1_0 : Ref sig .tc := ⟨.hbm, 62, rfl⟩
abbrev main_v41 : Ref sig .tc := ⟨.hbm, 63, rfl⟩
abbrev main_c_14 : Ref sig .tc := ⟨.hbm, 64, rfl⟩
abbrev main_v42 : Ref sig .tc := ⟨.hbm, 65, rfl⟩
abbrev main_c_15 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_16 : Ref sig .tc := ⟨.hbm, 71, rfl⟩
abbrev main_v47 : Ref sig .tc := ⟨.hbm, 72, rfl⟩
abbrev main_c_17 : Ref sig .tc := ⟨.hbm, 73, rfl⟩
abbrev main_v48 : Ref sig .tc := ⟨.hbm, 74, rfl⟩
abbrev main_v49 : Ref sig .tc := ⟨.hbm, 75, rfl⟩
abbrev main_c_18 : Ref sig .tc := ⟨.hbm, 76, rfl⟩
abbrev main_v50 : Ref sig .tc := ⟨.hbm, 77, rfl⟩
abbrev main_c_19 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (v8 : BitVec 32) : Nat :=
  let c0_i32 : BitVec 32 := 0#32
  let c1_i32_2 : BitVec 32 := 1#32
  let v9 : BitVec 32 := Scalar.muli v8 c1_i32_2
  let v10 : BitVec 32 := Scalar.addi c0_i32 v9
  v10.toNat

def k0_chk1 (v8 : BitVec 32) : Prop :=
  ((k0_dev1 v8) < nD)
theorem k0_dev1_lt : ∀ (v8 : BitVec 32) (k0_hw1 : k0_chk1 v8), (k0_dev1 v8) < nD := fun v8 k0_hw1 => k0_hw1

def k0_dev2 (v11 : BitVec 32) : Nat :=
  let c0_i32_6 : BitVec 32 := 0#32
  let c1_i32_5 : BitVec 32 := 1#32
  let v12 : BitVec 32 := Scalar.muli v11 c1_i32_5
  let v13 : BitVec 32 := Scalar.addi c0_i32_6 v12
  v13.toNat

def k0_chk2 (v11 : BitVec 32) : Prop :=
  ((k0_dev2 v11) < nD)
theorem k0_dev2_lt : ∀ (v11 : BitVec 32) (k0_hw2 : k0_chk2 v11), (k0_dev2 v11) < nD := fun v11 k0_hw2 => k0_hw2

def k0_dev3 (v14 : BitVec 32) : Nat :=
  let c0_i32_9 : BitVec 32 := 0#32
  let c1_i32_8 : BitVec 32 := 1#32
  let v15 : BitVec 32 := Scalar.muli v14 c1_i32_8
  let v16 : BitVec 32 := Scalar.addi c0_i32_9 v15
  v16.toNat

def k0_chk3 (v14 : BitVec 32) : Prop :=
  ((k0_dev3 v14) < nD)
theorem k0_dev3_lt : ∀ (v14 : BitVec 32) (k0_hw3 : k0_chk3 v14), (k0_dev3 v14) < nD := fun v14 k0_hw3 => k0_hw3

def k0_dev4 (v17 : BitVec 32) : Nat :=
  let c0_i32_12 : BitVec 32 := 0#32
  let c1_i32_11 : BitVec 32 := 1#32
  let v18 : BitVec 32 := Scalar.muli v17 c1_i32_11
  let v19 : BitVec 32 := Scalar.addi c0_i32_12 v18
  v19.toNat

def k0_chk4 (v17 : BitVec 32) : Prop :=
  ((k0_dev4 v17) < nD)
theorem k0_dev4_lt : ∀ (v17 : BitVec 32) (k0_hw4 : k0_chk4 v17), (k0_dev4 v17) < nD := fun v17 k0_hw4 => k0_hw4

def k0_dev5 (v3 : BitVec 32) : Nat :=
  let c0_i32_85 : BitVec 32 := 0#32
  let c1_i32_84 : BitVec 32 := 1#32
  let v141 : BitVec 32 := Scalar.muli v3 c1_i32_84
  let v142 : BitVec 32 := Scalar.addi c0_i32_85 v141
  v142.toNat
def k0_cond1 (d0 : Dev nD) (v3 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 1 := Scalar.cmpi .ne v3 v2
  let v20 : BitVec 32 := Scalar.extui v5
  let c0_i32_13 : BitVec 32 := 0#32
  let v21 : BitVec 1 := Scalar.cmpi .ne v20 c0_i32_13
  v21

def k0_dev6 (v3 : BitVec 32) : Nat :=
  let c0_i32_95 : BitVec 32 := 0#32
  let c1_i32_94 : BitVec 32 := 1#32
  let v149 : BitVec 32 := Scalar.muli v3 c1_i32_94
  let v150 : BitVec 32 := Scalar.addi c0_i32_95 v149
  v150.toNat
def k0_dev7 (v3 : BitVec 32) : Nat :=
  let c0_i32_103 : BitVec 32 := 0#32
  let c1_i32_102 : BitVec 32 := 1#32
  let v157 : BitVec 32 := Scalar.muli v3 c1_i32_102
  let v158 : BitVec 32 := Scalar.addi c0_i32_103 v157
  v158.toNat
def k0_dev8 (v3 : BitVec 32) : Nat :=
  let c0_i32_111 : BitVec 32 := 0#32
  let c1_i32_110 : BitVec 32 := 1#32
  let v165 : BitVec 32 := Scalar.muli v3 c1_i32_110
  let v166 : BitVec 32 := Scalar.addi c0_i32_111 v165
  v166.toNat
def k0_dev9 (v3 : BitVec 32) : Nat :=
  let c0_i32_120 : BitVec 32 := 0#32
  let c1_i32_119 : BitVec 32 := 1#32
  let v173 : BitVec 32 := Scalar.muli v3 c1_i32_119
  let v174 : BitVec 32 := Scalar.addi c0_i32_120 v173
  v174.toNat
def k0_dev10 (v3 : BitVec 32) : Nat :=
  let c0_i32_128 : BitVec 32 := 0#32
  let c1_i32_127 : BitVec 32 := 1#32
  let v181 : BitVec 32 := Scalar.muli v3 c1_i32_127
  let v182 : BitVec 32 := Scalar.addi c0_i32_128 v181
  v182.toNat
def k0_dev11 (v3 : BitVec 32) : Nat :=
  let c0_i32_136 : BitVec 32 := 0#32
  let c1_i32_135 : BitVec 32 := 1#32
  let v189 : BitVec 32 := Scalar.muli v3 c1_i32_135
  let v190 : BitVec 32 := Scalar.addi c0_i32_136 v189
  v190.toNat
def k0_dev12 (v3 : BitVec 32) : Nat :=
  let c0_i32_144 : BitVec 32 := 0#32
  let c1_i32_143 : BitVec 32 := 1#32
  let v197 : BitVec 32 := Scalar.muli v3 c1_i32_143
  let v198 : BitVec 32 := Scalar.addi c0_i32_144 v197
  v198.toNat
def k0_dev13 (v3 : BitVec 32) : Nat :=
  let c0_i32_152 : BitVec 32 := 0#32
  let c1_i32_151 : BitVec 32 := 1#32
  let v205 : BitVec 32 := Scalar.muli v3 c1_i32_151
  let v206 : BitVec 32 := Scalar.addi c0_i32_152 v205
  v206.toNat
def k0_dev14 (v3 : BitVec 32) : Nat :=
  let c0_i32_160 : BitVec 32 := 0#32
  let c1_i32_159 : BitVec 32 := 1#32
  let v213 : BitVec 32 := Scalar.muli v3 c1_i32_159
  let v214 : BitVec 32 := Scalar.addi c0_i32_160 v213
  v214.toNat
def k0_dev15 (v3 : BitVec 32) : Nat :=
  let c0_i32_168 : BitVec 32 := 0#32
  let c1_i32_167 : BitVec 32 := 1#32
  let v221 : BitVec 32 := Scalar.muli v3 c1_i32_167
  let v222 : BitVec 32 := Scalar.addi c0_i32_168 v221
  v222.toNat
def k0_dev16 (v3 : BitVec 32) : Nat :=
  let c0_i32_176 : BitVec 32 := 0#32
  let c1_i32_175 : BitVec 32 := 1#32
  let v229 : BitVec 32 := Scalar.muli v3 c1_i32_175
  let v230 : BitVec 32 := Scalar.addi c0_i32_176 v229
  v230.toNat
def k0_dev17 (v3 : BitVec 32) : Nat :=
  let c0_i32_184 : BitVec 32 := 0#32
  let c1_i32_183 : BitVec 32 := 1#32
  let v237 : BitVec 32 := Scalar.muli v3 c1_i32_183
  let v238 : BitVec 32 := Scalar.addi c0_i32_184 v237
  v238.toNat
def k0_dev18 (v3 : BitVec 32) : Nat :=
  let c0_i32_192 : BitVec 32 := 0#32
  let c1_i32_191 : BitVec 32 := 1#32
  let v245 : BitVec 32 := Scalar.muli v3 c1_i32_191
  let v246 : BitVec 32 := Scalar.addi c0_i32_192 v245
  v246.toNat
def k0_dev19 (v3 : BitVec 32) : Nat :=
  let c0_i32_200 : BitVec 32 := 0#32
  let c1_i32_199 : BitVec 32 := 1#32
  let v253 : BitVec 32 := Scalar.muli v3 c1_i32_199
  let v254 : BitVec 32 := Scalar.addi c0_i32_200 v253
  v254.toNat
def k0_dev20 (v3 : BitVec 32) : Nat :=
  let c0_i32_208 : BitVec 32 := 0#32
  let c1_i32_207 : BitVec 32 := 1#32
  let v261 : BitVec 32 := Scalar.muli v3 c1_i32_207
  let v262 : BitVec 32 := Scalar.addi c0_i32_208 v261
  v262.toNat

def k0_chk5 (d0 : Dev nD) (v3 : BitVec 32) : Prop :=
  (∀ (k0_h1 : k0_cond1 d0 v3 = 1#1), (k0_dev5 v3) < nD) ∧
  (∀ (k0_h1 : k0_cond1 d0 v3 = 1#1), (k0_dev6 v3) < nD) ∧
  (∀ (k0_h1 : k0_cond1 d0 v3 = 1#1), (k0_dev7 v3) < nD) ∧
  (∀ (k0_h1 : k0_cond1 d0 v3 = 1#1), (k0_dev8 v3) < nD) ∧
  (∀ (k0_h1 : k0_cond1 d0 v3 = 1#1), (k0_dev9 v3) < nD) ∧
  (∀ (k0_h1 : k0_cond1 d0 v3 = 1#1), (k0_dev10 v3) < nD) ∧
  (∀ (k0_h1 : k0_cond1 d0 v3 = 1#1), (k0_dev11 v3) < nD) ∧
  (∀ (k0_h1 : k0_cond1 d0 v3 = 1#1), (k0_dev12 v3) < nD) ∧
  (∀ (k0_h1 : k0_cond1 d0 v3 = 1#1), (k0_dev13 v3) < nD) ∧
  (∀ (k0_h1 : k0_cond1 d0 v3 = 1#1), (k0_dev14 v3) < nD) ∧
  (∀ (k0_h1 : k0_cond1 d0 v3 = 1#1), (k0_dev15 v3) < nD) ∧
  (∀ (k0_h1 : k0_cond1 d0 v3 = 1#1), (k0_dev16 v3) < nD) ∧
  (∀ (k0_h1 : k0_cond1 d0 v3 = 1#1), (k0_dev17 v3) < nD) ∧
  (∀ (k0_h1 : k0_cond1 d0 v3 = 1#1), (k0_dev18 v3) < nD) ∧
  (∀ (k0_h1 : k0_cond1 d0 v3 = 1#1), (k0_dev19 v3) < nD) ∧
  (∀ (k0_h1 : k0_cond1 d0 v3 = 1#1), (k0_dev20 v3) < nD)
theorem k0_dev5_lt : ∀ (d0 : Dev nD) (v3 : BitVec 32) (k0_hw5 : k0_chk5 d0 v3), ∀ (k0_h1 : k0_cond1 d0 v3 = 1#1), (k0_dev5 v3) < nD := fun d0 v3 k0_hw5 k0_h1 => k0_hw5.1 k0_h1
theorem k0_dev6_lt : ∀ (d0 : Dev nD) (v3 : BitVec 32) (k0_hw5 : k0_chk5 d0 v3), ∀ (k0_h1 : k0_cond1 d0 v3 = 1#1), (k0_dev6 v3) < nD := fun d0 v3 k0_hw5 k0_h1 => k0_hw5.2.1 k0_h1
theorem k0_dev7_lt : ∀ (d0 : Dev nD) (v3 : BitVec 32) (k0_hw5 : k0_chk5 d0 v3), ∀ (k0_h1 : k0_cond1 d0 v3 = 1#1), (k0_dev7 v3) < nD := fun d0 v3 k0_hw5 k0_h1 => k0_hw5.2.2.1 k0_h1
theorem k0_dev8_lt : ∀ (d0 : Dev nD) (v3 : BitVec 32) (k0_hw5 : k0_chk5 d0 v3), ∀ (k0_h1 : k0_cond1 d0 v3 = 1#1), (k0_dev8 v3) < nD := fun d0 v3 k0_hw5 k0_h1 => k0_hw5.2.2.2.1 k0_h1
theorem k0_dev9_lt : ∀ (d0 : Dev nD) (v3 : BitVec 32) (k0_hw5 : k0_chk5 d0 v3), ∀ (k0_h1 : k0_cond1 d0 v3 = 1#1), (k0_dev9 v3) < nD := fun d0 v3 k0_hw5 k0_h1 => k0_hw5.2.2.2.2.1 k0_h1
theorem k0_dev10_lt : ∀ (d0 : Dev nD) (v3 : BitVec 32) (k0_hw5 : k0_chk5 d0 v3), ∀ (k0_h1 : k0_cond1 d0 v3 = 1#1), (k0_dev10 v3) < nD := fun d0 v3 k0_hw5 k0_h1 => k0_hw5.2.2.2.2.2.1 k0_h1
theorem k0_dev11_lt : ∀ (d0 : Dev nD) (v3 : BitVec 32) (k0_hw5 : k0_chk5 d0 v3), ∀ (k0_h1 : k0_cond1 d0 v3 = 1#1), (k0_dev11 v3) < nD := fun d0 v3 k0_hw5 k0_h1 => k0_hw5.2.2.2.2.2.2.1 k0_h1
theorem k0_dev12_lt : ∀ (d0 : Dev nD) (v3 : BitVec 32) (k0_hw5 : k0_chk5 d0 v3), ∀ (k0_h1 : k0_cond1 d0 v3 = 1#1), (k0_dev12 v3) < nD := fun d0 v3 k0_hw5 k0_h1 => k0_hw5.2.2.2.2.2.2.2.1 k0_h1
theorem k0_dev13_lt : ∀ (d0 : Dev nD) (v3 : BitVec 32) (k0_hw5 : k0_chk5 d0 v3), ∀ (k0_h1 : k0_cond1 d0 v3 = 1#1), (k0_dev13 v3) < nD := fun d0 v3 k0_hw5 k0_h1 => k0_hw5.2.2.2.2.2.2.2.2.1 k0_h1
theorem k0_dev14_lt : ∀ (d0 : Dev nD) (v3 : BitVec 32) (k0_hw5 : k0_chk5 d0 v3), ∀ (k0_h1 : k0_cond1 d0 v3 = 1#1), (k0_dev14 v3) < nD := fun d0 v3 k0_hw5 k0_h1 => k0_hw5.2.2.2.2.2.2.2.2.2.1 k0_h1
theorem k0_dev15_lt : ∀ (d0 : Dev nD) (v3 : BitVec 32) (k0_hw5 : k0_chk5 d0 v3), ∀ (k0_h1 : k0_cond1 d0 v3 = 1#1), (k0_dev15 v3) < nD := fun d0 v3 k0_hw5 k0_h1 => k0_hw5.2.2.2.2.2.2.2.2.2.2.1 k0_h1
theorem k0_dev16_lt : ∀ (d0 : Dev nD) (v3 : BitVec 32) (k0_hw5 : k0_chk5 d0 v3), ∀ (k0_h1 : k0_cond1 d0 v3 = 1#1), (k0_dev16 v3) < nD := fun d0 v3 k0_hw5 k0_h1 => k0_hw5.2.2.2.2.2.2.2.2.2.2.2.1 k0_h1
theorem k0_dev17_lt : ∀ (d0 : Dev nD) (v3 : BitVec 32) (k0_hw5 : k0_chk5 d0 v3), ∀ (k0_h1 : k0_cond1 d0 v3 = 1#1), (k0_dev17 v3) < nD := fun d0 v3 k0_hw5 k0_h1 => k0_hw5.2.2.2.2.2.2.2.2.2.2.2.2.1 k0_h1
theorem k0_dev18_lt : ∀ (d0 : Dev nD) (v3 : BitVec 32) (k0_hw5 : k0_chk5 d0 v3), ∀ (k0_h1 : k0_cond1 d0 v3 = 1#1), (k0_dev18 v3) < nD := fun d0 v3 k0_hw5 k0_h1 => k0_hw5.2.2.2.2.2.2.2.2.2.2.2.2.2.1 k0_h1
theorem k0_dev19_lt : ∀ (d0 : Dev nD) (v3 : BitVec 32) (k0_hw5 : k0_chk5 d0 v3), ∀ (k0_h1 : k0_cond1 d0 v3 = 1#1), (k0_dev19 v3) < nD := fun d0 v3 k0_hw5 k0_h1 => k0_hw5.2.2.2.2.2.2.2.2.2.2.2.2.2.2.1 k0_h1
theorem k0_dev20_lt : ∀ (d0 : Dev nD) (v3 : BitVec 32) (k0_hw5 : k0_chk5 d0 v3), ∀ (k0_h1 : k0_cond1 d0 v3 = 1#1), (k0_dev20 v3) < nD := fun d0 v3 k0_hw5 k0_h1 => k0_hw5.2.2.2.2.2.2.2.2.2.2.2.2.2.2.2 k0_h1

def k0_dev21 (v4 : BitVec 32) : Nat :=
  let c0_i32_85 : BitVec 32 := 0#32
  let c1_i32_84 : BitVec 32 := 1#32
  let v141 : BitVec 32 := Scalar.muli v4 c1_i32_84
  let v142 : BitVec 32 := Scalar.addi c0_i32_85 v141
  v142.toNat
def k0_cond4 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v27 : BitVec 32 := Scalar.extui v6
  let c0_i32_17 : BitVec 32 := 0#32
  let v28 : BitVec 1 := Scalar.cmpi .ne v27 c0_i32_17
  v28

def k0_dev22 (v4 : BitVec 32) : Nat :=
  let c0_i32_85 : BitVec 32 := 0#32
  let c1_i32_84 : BitVec 32 := 1#32
  let v141 : BitVec 32 := Scalar.muli v4 c1_i32_84
  let v142 : BitVec 32 := Scalar.addi c0_i32_85 v141
  v142.toNat
def k0_cond7 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v34 : BitVec 32 := Scalar.extui v6
  let c0_i32_21 : BitVec 32 := 0#32
  let v35 : BitVec 1 := Scalar.cmpi .ne v34 c0_i32_21
  v35

def k0_dev23 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond10 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v41 : BitVec 32 := Scalar.extui v6
  let c0_i32_25 : BitVec 32 := 0#32
  let v42 : BitVec 1 := Scalar.cmpi .ne v41 c0_i32_25
  v42

def k0_dev24 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond13 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v48 : BitVec 32 := Scalar.extui v6
  let c0_i32_29 : BitVec 32 := 0#32
  let v49 : BitVec 1 := Scalar.cmpi .ne v48 c0_i32_29
  v49

def k0_dev25 (v4 : BitVec 32) : Nat :=
  let c0_i32_85 : BitVec 32 := 0#32
  let c1_i32_84 : BitVec 32 := 1#32
  let v141 : BitVec 32 := Scalar.muli v4 c1_i32_84
  let v142 : BitVec 32 := Scalar.addi c0_i32_85 v141
  v142.toNat
def k0_cond16 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v55 : BitVec 32 := Scalar.extui v6
  let c0_i32_33 : BitVec 32 := 0#32
  let v56 : BitVec 1 := Scalar.cmpi .ne v55 c0_i32_33
  v56

def k0_dev26 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond19 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v62 : BitVec 32 := Scalar.extui v6
  let c0_i32_37 : BitVec 32 := 0#32
  let v63 : BitVec 1 := Scalar.cmpi .ne v62 c0_i32_37
  v63

def k0_dev27 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond22 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v69 : BitVec 32 := Scalar.extui v6
  let c0_i32_41 : BitVec 32 := 0#32
  let v70 : BitVec 1 := Scalar.cmpi .ne v69 c0_i32_41
  v70

def k0_dev28 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond25 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v76 : BitVec 32 := Scalar.extui v6
  let c0_i32_45 : BitVec 32 := 0#32
  let v77 : BitVec 1 := Scalar.cmpi .ne v76 c0_i32_45
  v77

def k0_dev29 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond28 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v83 : BitVec 32 := Scalar.extui v6
  let c0_i32_49 : BitVec 32 := 0#32
  let v84 : BitVec 1 := Scalar.cmpi .ne v83 c0_i32_49
  v84

def k0_dev30 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond31 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v90 : BitVec 32 := Scalar.extui v6
  let c0_i32_53 : BitVec 32 := 0#32
  let v91 : BitVec 1 := Scalar.cmpi .ne v90 c0_i32_53
  v91

def k0_dev31 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond34 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v97 : BitVec 32 := Scalar.extui v6
  let c0_i32_57 : BitVec 32 := 0#32
  let v98 : BitVec 1 := Scalar.cmpi .ne v97 c0_i32_57
  v98

def k0_dev32 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond37 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v104 : BitVec 32 := Scalar.extui v6
  let c0_i32_61 : BitVec 32 := 0#32
  let v105 : BitVec 1 := Scalar.cmpi .ne v104 c0_i32_61
  v105

def k0_dev33 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond40 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v111 : BitVec 32 := Scalar.extui v6
  let c0_i32_65 : BitVec 32 := 0#32
  let v112 : BitVec 1 := Scalar.cmpi .ne v111 c0_i32_65
  v112

def k0_dev34 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond43 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v118 : BitVec 32 := Scalar.extui v6
  let c0_i32_69 : BitVec 32 := 0#32
  let v119 : BitVec 1 := Scalar.cmpi .ne v118 c0_i32_69
  v119

def k0_dev35 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond46 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v125 : BitVec 32 := Scalar.extui v6
  let c0_i32_73 : BitVec 32 := 0#32
  let v126 : BitVec 1 := Scalar.cmpi .ne v125 c0_i32_73
  v126

def k0_dev36 (v4 : BitVec 32) : Nat :=
  let c0_i32_84 : BitVec 32 := 0#32
  let c1_i32_83 : BitVec 32 := 1#32
  let v141 : BitVec 32 := Scalar.muli v4 c1_i32_83
  let v142 : BitVec 32 := Scalar.addi c0_i32_84 v141
  v142.toNat
def k0_cond49 (d0 : Dev nD) (v4 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6 : BitVec 1 := Scalar.cmpi .ne v4 v2
  let v132 : BitVec 32 := Scalar.extui v6
  let c0_i32_77 : BitVec 32 := 0#32
  let v133 : BitVec 1 := Scalar.cmpi .ne v132 c0_i32_77
  v133

def k0_chk6 (d0 : Dev nD) (v4 : BitVec 32) : Prop :=
  (∀ (k0_h4 : k0_cond4 d0 v4 = 1#1), (k0_dev21 v4) < nD) ∧
  (∀ (k0_h7 : k0_cond7 d0 v4 = 1#1), (k0_dev22 v4) < nD) ∧
  (∀ (k0_h10 : k0_cond10 d0 v4 = 1#1), (k0_dev23 v4) < nD) ∧
  (∀ (k0_h13 : k0_cond13 d0 v4 = 1#1), (k0_dev24 v4) < nD) ∧
  (∀ (k0_h16 : k0_cond16 d0 v4 = 1#1), (k0_dev25 v4) < nD) ∧
  (∀ (k0_h19 : k0_cond19 d0 v4 = 1#1), (k0_dev26 v4) < nD) ∧
  (∀ (k0_h22 : k0_cond22 d0 v4 = 1#1), (k0_dev27 v4) < nD) ∧
  (∀ (k0_h25 : k0_cond25 d0 v4 = 1#1), (k0_dev28 v4) < nD) ∧
  (∀ (k0_h28 : k0_cond28 d0 v4 = 1#1), (k0_dev29 v4) < nD) ∧
  (∀ (k0_h31 : k0_cond31 d0 v4 = 1#1), (k0_dev30 v4) < nD) ∧
  (∀ (k0_h34 : k0_cond34 d0 v4 = 1#1), (k0_dev31 v4) < nD) ∧
  (∀ (k0_h37 : k0_cond37 d0 v4 = 1#1), (k0_dev32 v4) < nD) ∧
  (∀ (k0_h40 : k0_cond40 d0 v4 = 1#1), (k0_dev33 v4) < nD) ∧
  (∀ (k0_h43 : k0_cond43 d0 v4 = 1#1), (k0_dev34 v4) < nD) ∧
  (∀ (k0_h46 : k0_cond46 d0 v4 = 1#1), (k0_dev35 v4) < nD) ∧
  (∀ (k0_h49 : k0_cond49 d0 v4 = 1#1), (k0_dev36 v4) < nD)
theorem k0_dev21_lt : ∀ (d0 : Dev nD) (v4 : BitVec 32) (k0_hw6 : k0_chk6 d0 v4), ∀ (k0_h4 : k0_cond4 d0 v4 = 1#1), (k0_dev21 v4) < nD := fun d0 v4 k0_hw6 k0_h4 => k0_hw6.1 k0_h4
theorem k0_dev22_lt : ∀ (d0 : Dev nD) (v4 : BitVec 32) (k0_hw6 : k0_chk6 d0 v4), ∀ (k0_h7 : k0_cond7 d0 v4 = 1#1), (k0_dev22 v4) < nD := fun d0 v4 k0_hw6 k0_h7 => k0_hw6.2.1 k0_h7
theorem k0_dev23_lt : ∀ (d0 : Dev nD) (v4 : BitVec 32) (k0_hw6 : k0_chk6 d0 v4), ∀ (k0_h10 : k0_cond10 d0 v4 = 1#1), (k0_dev23 v4) < nD := fun d0 v4 k0_hw6 k0_h10 => k0_hw6.2.2.1 k0_h10
theorem k0_dev24_lt : ∀ (d0 : Dev nD) (v4 : BitVec 32) (k0_hw6 : k0_chk6 d0 v4), ∀ (k0_h13 : k0_cond13 d0 v4 = 1#1), (k0_dev24 v4) < nD := fun d0 v4 k0_hw6 k0_h13 => k0_hw6.2.2.2.1 k0_h13
theorem k0_dev25_lt : ∀ (d0 : Dev nD) (v4 : BitVec 32) (k0_hw6 : k0_chk6 d0 v4), ∀ (k0_h16 : k0_cond16 d0 v4 = 1#1), (k0_dev25 v4) < nD := fun d0 v4 k0_hw6 k0_h16 => k0_hw6.2.2.2.2.1 k0_h16
theorem k0_dev26_lt : ∀ (d0 : Dev nD) (v4 : BitVec 32) (k0_hw6 : k0_chk6 d0 v4), ∀ (k0_h19 : k0_cond19 d0 v4 = 1#1), (k0_dev26 v4) < nD := fun d0 v4 k0_hw6 k0_h19 => k0_hw6.2.2.2.2.2.1 k0_h19
theorem k0_dev27_lt : ∀ (d0 : Dev nD) (v4 : BitVec 32) (k0_hw6 : k0_chk6 d0 v4), ∀ (k0_h22 : k0_cond22 d0 v4 = 1#1), (k0_dev27 v4) < nD := fun d0 v4 k0_hw6 k0_h22 => k0_hw6.2.2.2.2.2.2.1 k0_h22
theorem k0_dev28_lt : ∀ (d0 : Dev nD) (v4 : BitVec 32) (k0_hw6 : k0_chk6 d0 v4), ∀ (k0_h25 : k0_cond25 d0 v4 = 1#1), (k0_dev28 v4) < nD := fun d0 v4 k0_hw6 k0_h25 => k0_hw6.2.2.2.2.2.2.2.1 k0_h25
theorem k0_dev29_lt : ∀ (d0 : Dev nD) (v4 : BitVec 32) (k0_hw6 : k0_chk6 d0 v4), ∀ (k0_h28 : k0_cond28 d0 v4 = 1#1), (k0_dev29 v4) < nD := fun d0 v4 k0_hw6 k0_h28 => k0_hw6.2.2.2.2.2.2.2.2.1 k0_h28
theorem k0_dev30_lt : ∀ (d0 : Dev nD) (v4 : BitVec 32) (k0_hw6 : k0_chk6 d0 v4), ∀ (k0_h31 : k0_cond31 d0 v4 = 1#1), (k0_dev30 v4) < nD := fun d0 v4 k0_hw6 k0_h31 => k0_hw6.2.2.2.2.2.2.2.2.2.1 k0_h31
theorem k0_dev31_lt : ∀ (d0 : Dev nD) (v4 : BitVec 32) (k0_hw6 : k0_chk6 d0 v4), ∀ (k0_h34 : k0_cond34 d0 v4 = 1#1), (k0_dev31 v4) < nD := fun d0 v4 k0_hw6 k0_h34 => k0_hw6.2.2.2.2.2.2.2.2.2.2.1 k0_h34
theorem k0_dev32_lt : ∀ (d0 : Dev nD) (v4 : BitVec 32) (k0_hw6 : k0_chk6 d0 v4), ∀ (k0_h37 : k0_cond37 d0 v4 = 1#1), (k0_dev32 v4) < nD := fun d0 v4 k0_hw6 k0_h37 => k0_hw6.2.2.2.2.2.2.2.2.2.2.2.1 k0_h37
theorem k0_dev33_lt : ∀ (d0 : Dev nD) (v4 : BitVec 32) (k0_hw6 : k0_chk6 d0 v4), ∀ (k0_h40 : k0_cond40 d0 v4 = 1#1), (k0_dev33 v4) < nD := fun d0 v4 k0_hw6 k0_h40 => k0_hw6.2.2.2.2.2.2.2.2.2.2.2.2.1 k0_h40
theorem k0_dev34_lt : ∀ (d0 : Dev nD) (v4 : BitVec 32) (k0_hw6 : k0_chk6 d0 v4), ∀ (k0_h43 : k0_cond43 d0 v4 = 1#1), (k0_dev34 v4) < nD := fun d0 v4 k0_hw6 k0_h43 => k0_hw6.2.2.2.2.2.2.2.2.2.2.2.2.2.1 k0_h43
theorem k0_dev35_lt : ∀ (d0 : Dev nD) (v4 : BitVec 32) (k0_hw6 : k0_chk6 d0 v4), ∀ (k0_h46 : k0_cond46 d0 v4 = 1#1), (k0_dev35 v4) < nD := fun d0 v4 k0_hw6 k0_h46 => k0_hw6.2.2.2.2.2.2.2.2.2.2.2.2.2.2.1 k0_h46
theorem k0_dev36_lt : ∀ (d0 : Dev nD) (v4 : BitVec 32) (k0_hw6 : k0_chk6 d0 v4), ∀ (k0_h49 : k0_cond49 d0 v4 = 1#1), (k0_dev36 v4) < nD := fun d0 v4 k0_hw6 k0_h49 => k0_hw6.2.2.2.2.2.2.2.2.2.2.2.2.2.2.2 k0_h49

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x1024x1024 : Shape := ⟨3, ![32, 1024, 1024]⟩
abbrev S32 : Shape := ⟨1, ![32]⟩
abbrev S_ : Shape := ⟨0, ![]⟩
abbrev S32x1 : Shape := ⟨2, ![32, 1]⟩

abbrev nBuf : Space → Nat
  | .hbm => 14
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Chunk.lean ====
/- The sixteen row bands a block moves in: their views, how they tile a block, and what a band's
   contents are after a copy of it has landed. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A block as the three buffers hold it: one f32 per index. -/
abbrev Blk (F : FTy → Type) : Type := S1x1024x1024.Idx → Elt F .f32

/-- The staged input block, the intermediate block and the staged result block. -/
abbrev xM : Memref sig .tc .vmem S1x1024x1024 .f32 := Memref.whole cc0_stg1_0
abbrev gM : Memref sig .tc .vmem S1x1024x1024 .f32 := Memref.whole cc0_scratch0
abbrev oM : Memref sig .tc .vmem S1x1024x1024 .f32 := Memref.whole cc0_stg2_0

/-- Band `j` lies inside a block. -/
theorem band_inb (j : Fin 16) :
    ∀ a, (![0, 64 * j.val, 0] : Fin 3 → ℕ) a + S1x64x1024.size a ≤ S1x1024x1024.size a := by
  intro a
  fin_cases a
  · show 0 + 1 ≤ 1; omega
  · show 64 * j.val + 64 ≤ 1024; omega
  · show 0 + 1024 ≤ 1024; omega

/-- Rows `64 j … 64 j + 63` of a block. -/
abbrev band (j : Fin 16) : Rect S1x1024x1024 :=
  Rect.unit (s := S1x1024x1024) ![0, 64 * j.val, 0] S1x64x1024.size (band_inb j)

/-- Band `j` of one of the three buffers, as the program slices it. -/
abbrev cut (M : Memref sig .tc .vmem S1x1024x1024 .f32) (j : Fin 16) :
    Memref sig .tc .vmem S1x64x1024 .f32 := M.slice (band j) (fun _ => rfl)

/-- An index lies in band `j` exactly when its row does. -/
theorem mem_band (j : Fin 16) (i : S1x1024x1024.Idx) :
    i ∈ (band j).set ↔ (i (1 : Fin 3)).val / 64 = j.val := by
  rw [Rect.mem_set_unit]
  have h0 : (i (0 : Fin 3)).val < 1 := (i (0 : Fin 3)).isLt
  have h1 : (i (1 : Fin 3)).val < 1024 := (i (1 : Fin 3)).isLt
  have h2 : (i (2 : Fin 3)).val < 1024 := (i (2 : Fin 3)).isLt
  constructor
  · intro h
    have := h (1 : Fin 3)
    have e1 : (![0, 64 * j.val, 0] : Fin 3 → ℕ) 1 = 64 * j.val := rfl
    have e2 : S1x64x1024.size (1 : Fin 3) = 64 := rfl
    rw [e1, e2] at this
    omega
  · intro h a
    fin_cases a
    · show 0 ≤ (i (0 : Fin 3)).val ∧ (i (0 : Fin 3)).val < 0 + 1; omega
    · show 64 * j.val ≤ (i (1 : Fin 3)).val ∧ (i (1 : Fin 3)).val < 64 * j.val + 64; omega
    · show 0 ≤ (i (2 : Fin 3)).val ∧ (i (2 : Fin 3)).val < 0 + 1024; omega

/-- Different bands share no element. -/
theorem band_disjoint : ∀ i ∈ (Finset.univ : Finset (Fin 16)), ∀ j ∈ (Finset.univ : Finset (Fin 16)),
    i ≠ j → Disjoint (band i).set (band j).set := by
  intro i _ j _ hij
  rw [Finset.disjoint_left]
  intro x hx hy
  rw [mem_band] at hx hy
  exact hij (Fin.ext (hx.symm.trans hy))

/-- The bands fill the block. -/
theorem band_cover : (Finset.univ : Finset (Fin 16)).biUnion (fun j => (band j).set) = Finset.univ := by
  ext i
  simp only [Finset.mem_biUnion, Finset.mem_univ, true_and, iff_true]
  have h1 : (i (1 : Fin 3)).val < 1024 := (i (1 : Fin 3)).isLt
  exact ⟨⟨(i (1 : Fin 3)).val / 64, by omega⟩, (mem_band _ i).mpr rfl⟩

/-- A band's credit: what a copy of it pays either of its semaphores. -/
abbrev bandCredit : ℕ := (cut gM 0).view.dmaCredit

theorem bandCredit_pos : 0 < bandCredit := View.dmaCredit_pos _ (by decide)

theorem credit_x (j : Fin 16) : (cut xM j).view.dmaCredit = bandCredit := rfl
theorem credit_g (j : Fin 16) : (cut gM j).view.dmaCredit = bandCredit := rfl
theorem credit_o (j : Fin 16) : (cut oM j).view.dmaCredit = bandCredit := rfl

theorem set_x (j : Fin 16) : (cut xM j).view.set = (band j).set := View.set_slice_whole _ _
theorem set_g (j : Fin 16) : (cut gM j).view.set = (band j).set := View.set_slice_whole _ _
theorem set_o (j : Fin 16) : (cut oM j).view.set = (band j).set := View.set_slice_whole _ _

/-- A band of the input copied over a band of the intermediate block: it holds the input's there. -/
theorem land_xg (j : Fin 16) (f fd : Blk F) : ∀ i ∈ (band j).set,
    ((cut gM j).view.write (Elt F) fd ((cut xM j).view.read (Elt F) f) Finset.univ : Blk F) i = f i := by
  intro i hi
  rw [← set_g] at hi
  obtain ⟨y, -, rfl⟩ := Finset.mem_map.mp hi
  rw [View.write_emb_of_mem _ _ (Finset.mem_univ y)]
  rfl

/-- A band of the intermediate block copied over a band of the result: it holds the intermediate's there. -/
theorem land_go (j : Fin 16) (f fd : Blk F) : ∀ i ∈ (band j).set,
    ((cut oM j).view.write (Elt F) fd ((cut gM j).view.read (Elt F) f) Finset.univ : Blk F) i = f i := by
  intro i hi
  rw [← set_o] at hi
  obtain ⟨y, -, rfl⟩ := Finset.mem_map.mp hi
  rw [View.write_emb_of_mem _ _ (Finset.mem_univ y)]
  rfl

end Cert.Move

end
-- ==== Proof.Protocol.lean ====
/- The protocol of the move: which device signals, copies to and waits for which, and what each landing
   hands over. It is written over two permutations of the devices and any contents. -/
module

public import proofs.«01_k».proof.Proof.Chunk

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two copies' tallies: the pipeline's, and this protocol's, whose rounds have up to four duties. -/
abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-- Where a block goes: first to `mid`, and what a device then holds goes on to `fwd`. -/
structure Plan where
  mid : Equiv.Perm (Dev nD)
  fwd : Equiv.Perm (Dev nD)

/-- The device the `k`-th entry signal goes to. -/
def Plan.dst (P : Plan) (k : Fin 4) : Equiv.Perm (Dev nD) :=
  match k with
  | 0 => P.mid
  | 1 => P.fwd
  | 2 => P.mid.symm
  | 3 => P.fwd.symm

/-- Whether the copies of kind `a` happen on device `c`: the first leg's (0, 1) where its block moves, the
    second leg's (2, 3) where the block it then holds moves. -/
abbrev Plan.Far (P : Plan) (a : ℕ) (c : Dev nD) : Prop := if a < 2 then P.mid c ≠ c else P.fwd c ≠ c

/-- What device `d` holds between the legs, and at the end. -/
def Plan.held (P : Plan) (xs : Dev nD → Blk F) (d : Dev nD) : Blk F := xs (P.mid.symm d)
def Plan.final (P : Plan) (xs : Dev nD → Blk F) (d : Dev nD) : Blk F := P.held xs (P.fwd.symm d)

theorem Plan.held_mid (P : Plan) (xs : Dev nD → Blk F) (c : Dev nD) : P.held xs (P.mid c) = xs c := by
  unfold Plan.held; rw [Equiv.symm_apply_apply]
theorem Plan.final_fwd (P : Plan) (xs : Dev nD → Blk F) (c : Dev nD) : P.final xs (P.fwd c) = P.held xs c := by
  unfold Plan.final; rw [Equiv.symm_apply_apply]

/-! ## Cells -/

/-- The semaphore of kind `a` for band `j`: 0 first leg sent, 1 first leg received, 2 and 3 the second's. -/
def ksem (a : Fin 4) (j : Fin 16) : DmaSem sig := ⟨3 + 16 * a.val + j.val, by have := a.isLt; have := j.isLt; show _ < 67; omega⟩

abbrev barCell (c : Dev nD) : GSem nD τ sig := ((c : Thread nD τ), .reg barrier0)
abbrev kCell (a : Fin 4) (j : Fin 16) (c : Dev nD) : GSem nD τ sig := ((c : Thread nD τ), .dma (ksem a j))

theorem ksem_kind (a : Fin 4) (j : Fin 16) : ((ksem a j).val - 3) / 16 = a.val := by
  have := j.isLt; show (3 + 16 * a.val + j.val - 3) / 16 = a.val; omega
theorem ksem_band (a : Fin 4) (j : Fin 16) : ((ksem a j).val - 3) % 16 = j.val := by
  have := j.isLt; show (3 + 16 * a.val + j.val - 3) % 16 = j.val; omega
theorem ksem_inj {a a' : Fin 4} {j j' : Fin 16} (h : ksem a j = ksem a' j') : a = a' ∧ j = j' := by
  constructor
  · exact Fin.ext (by rw [← ksem_kind a j, h, ksem_kind])
  · exact Fin.ext (by rw [← ksem_band a j, h, ksem_band])
theorem kCell_ne_bar (a : Fin 4) (j : Fin 16) (c d : Dev nD) : kCell a j c ≠ barCell d := fun h => by
  have := congrArg Prod.snd h; cases this

/-- Band `j` of device `c`'s input block, intermediate block and result block, at contents `f`. -/
abbrev xBand (c : Dev nD) (j : Fin 16) (f : Blk F) : sProp 𝕄 := (cut xM j).view.loc (c : Thread nD τ) ↦[(cut xM j).view.set]{fullShare} f
abbrev gBand (c : Dev nD) (j : Fin 16) (f : Blk F) : sProp 𝕄 := (cut gM j).view.loc (c : Thread nD τ) ↦[(cut gM j).view.set]{fullShare} f
abbrev oBand (c : Dev nD) (j : Fin 16) (f : Blk F) : sProp 𝕄 := (cut oM j).view.loc (c : Thread nD τ) ↦[(cut oM j).view.set]{fullShare} f

/-- The three blocks, whole. -/
abbrev xAll (c : Dev nD) (f : Blk F) : sProp 𝕄 := ((c : Thread nD τ).loc cc0_stg1_0) ↦{fullShare} f
abbrev gAll (c : Dev nD) (f : Blk F) : sProp 𝕄 := ((c : Thread nD τ).loc cc0_scratch0) ↦{fullShare} f
abbrev oAll (c : Dev nD) (f : Blk F) : sProp 𝕄 := ((c : Thread nD τ).loc cc0_stg2_0) ↦{fullShare} f

/-- A whole buffer is its pieces, where these fill it without overlap. -/
theorem whole_pieces (ℓ : Loc nD τ sig) (S : Fin 16 → Finset ℓ.ty.Idx) (f : Buf (Elt F) ℓ)
    (hdis : ∀ i ∈ (Finset.univ : Finset (Fin 16)), ∀ j ∈ (Finset.univ : Finset (Fin 16)), i ≠ j → Disjoint (S i) (S j))
    (hcov : Finset.univ.biUnion S = Finset.univ) :
    (ℓ ↦{fullShare} f : sProp 𝕄) = bigSep Finset.univ fun j => (ℓ ↦[S j]{fullShare} f : sProp 𝕄) := by
  rw [← pointsTo_biUnion Finset.univ S hdis, hcov]

theorem x_disjoint : ∀ i ∈ (Finset.univ : Finset (Fin 16)), ∀ j ∈ (Finset.univ : Finset (Fin 16)), i ≠ j →
    Disjoint (cut xM i).view.set (cut xM j).view.set := by
  intro i hi j hj h; rw [set_x, set_x]; exact band_disjoint i hi j hj h
theorem g_disjoint : ∀ i ∈ (Finset.univ : Finset (Fin 16)), ∀ j ∈ (Finset.univ : Finset (Fin 16)), i ≠ j →
    Disjoint (cut gM i).view.set (cut gM j).view.set := by
  intro i hi j hj h; rw [set_g, set_g]; exact band_disjoint i hi j hj h
theorem o_disjoint : ∀ i ∈ (Finset.univ : Finset (Fin 16)), ∀ j ∈ (Finset.univ : Finset (Fin 16)), i ≠ j →
    Disjoint (cut oM i).view.set (cut oM j).view.set := by
  intro i hi j hj h; rw [set_o, set_o]; exact band_disjoint i hi j hj h
theorem x_cover : Finset.biUnion (β := S1x1024x1024.Idx) (Finset.univ : Finset (Fin 16)) (fun j => (cut xM j).view.set) = Finset.univ :=
  (congrArg (Finset.biUnion (β := S1x1024x1024.Idx) Finset.univ) (funext set_x)).trans band_cover
theorem g_cover : Finset.biUnion (β := S1x1024x1024.Idx) (Finset.univ : Finset (Fin 16)) (fun j => (cut gM j).view.set) = Finset.univ :=
  (congrArg (Finset.biUnion (β := S1x1024x1024.Idx) Finset.univ) (funext set_g)).trans band_cover
theorem o_cover : Finset.biUnion (β := S1x1024x1024.Idx) (Finset.univ : Finset (Fin 16)) (fun j => (cut oM j).view.set) = Finset.univ :=
  (congrArg (Finset.biUnion (β := S1x1024x1024.Idx) Finset.univ) (funext set_o)).trans band_cover

theorem xAll_bands (c : Dev nD) (f : Blk F) : xAll c f = bigSep Finset.univ fun j => (xBand c j f : sProp 𝕄) :=
  whole_pieces ((c : Thread nD τ).loc cc0_stg1_0) (fun j => (cut xM j).view.set) f x_disjoint x_cover
theorem gAll_bands (c : Dev nD) (f : Blk F) : gAll c f = bigSep Finset.univ fun j => (gBand c j f : sProp 𝕄) :=
  whole_pieces ((c : Thread nD τ).loc cc0_scratch0) (fun j => (cut gM j).view.set) f g_disjoint g_cover
theorem oAll_bands (c : Dev nD) (f : Blk F) : oAll c f = bigSep Finset.univ fun j => (oBand c j f : sProp 𝕄) :=
  whole_pieces ((c : Thread nD τ).loc cc0_stg2_0) (fun j => (cut oM j).view.set) f o_disjoint o_cover

/-! ## The schedule -/

variable (P : Plan) (xs : Dev nD → Blk F)

/-- What the `k`-th entry signal hands device `d`: the third (it comes from `mid d`) that device's intermediate
    block, the fourth (from `fwd d`) that device's result block, each with its receive cells opened. -/
def barPay (d : Dev nD) (k : Fin 4) : sProp 𝕄 :=
  match k with
  | 2 => iprop((∃ f, gAll (P.mid d) f) ∗ bigSep Finset.univ fun j => reached ER (kCell 1 j (P.mid d)) 0)
  | 3 => iprop((∃ f, oAll (P.fwd d) f) ∗ bigSep Finset.univ fun j => reached ER (kCell 3 j (P.fwd d)) 0)
  | _ => iprop(emp)

/-- What a copy of band `j` pays a cell of kind `a` on device `d`. -/
def bandPay (a : ℕ) (j : Fin 16) (d : Dev nD) : sProp 𝕄 :=
  if a = 0 then xBand d j (xs d) else if a = 1 then gBand d j (P.held xs d)
  else if a = 2 then gBand d j (P.held xs d) else oBand d j (P.final xs d)

/-- One round on every cell. A barrier cell's four duties are the four entry signals; a copy's cell has the one
    duty of that copy where the copy happens, and none where it does not. -/
def rd : Rounds.Schedule (GSem nD τ sig) (Fin 4) 𝕄 where
  duties g r := if r = 0 then (match g.2 with
    | .reg _ => Finset.univ
    | .dma n => if P.Far ((n.val - 3) / 16) g.1.1 then {0} else ∅) else ∅
  unitless _ := False
  amount g _ _ := match g.2 with
    | .reg _ => 1
    | .dma _ => bandCredit
  payload g _ k := match g.2 with
    | .reg _ => barPay P g.1.1 k
    | .dma n => bandPay P xs ((n.val - 3) / 16) ⟨(n.val - 3) % 16, Nat.mod_lt _ (by decide)⟩ g.1.1
  amount_pos g _ _ _ := by
    obtain ⟨t, s⟩ := g
    cases s
    · exact Nat.one_pos
    · exact bandCredit_pos

instance barPay_storable (d : Dev nD) (k : Fin 4) : BI.Storable (upEmb : UEmb _ 𝕄) (barPay (F := F) P d k) := by
  unfold barPay
  split <;> infer_instance

instance bandPay_storable (a : ℕ) (j : Fin 16) (d : Dev nD) : BI.Storable (upEmb : UEmb _ 𝕄) (bandPay P xs a j d) := by
  unfold bandPay
  (repeat' split) <;> infer_instance

instance rd_payload_storable (g : GSem nD τ sig) (r : ℕ) (k : Fin 4) :
    BI.Storable (upEmb : UEmb _ 𝕄) ((rd P xs).payload g r k) := by
  obtain ⟨t, s⟩ := g
  cases s
  · show BI.Storable upEmb (barPay P _ k); infer_instance
  · show BI.Storable upEmb (bandPay P xs _ _ _); infer_instance

section Sched

theorem duties_bar (c : Dev nD) : (rd P xs).duties (barCell c) 0 = Finset.univ := rfl
theorem duties_band (a : Fin 4) (j : Fin 16) (c : Dev nD) (h : P.Far a.val c) : (rd P xs).duties (kCell a j c) 0 = {0} := by
  show (if (0 : ℕ) = 0 then (if P.Far (((ksem a j).val - 3) / 16) c then ({0} : Finset (Fin 4)) else ∅) else ∅) = {0}
  rw [if_pos rfl, ksem_kind, if_pos h]
theorem duties_later (g : GSem nD τ sig) : ∀ r, 1 ≤ r → (rd P xs).duties g r = ∅ := fun r hr => by
  show (if r = 0 then _ else ∅) = ∅
  rw [if_neg (by omega)]
/-- A cell whose copy does not happen has no duty at all. -/
theorem duties_near (a : Fin 4) (j : Fin 16) (c : Dev nD) (h : ¬ P.Far a.val c) : ∀ r, 0 ≤ r → (rd P xs).duties (kCell a j c) r = ∅ := fun r _ => by
  show (if r = 0 then (if P.Far (((ksem a j).val - 3) / 16) c then ({0} : Finset (Fin 4)) else ∅) else ∅) = ∅
  rw [ksem_kind, if_neg h, ite_self]

theorem amount_bar (c : Dev nD) (k : Fin 4) : (rd P xs).amount (barCell c) 0 k = 1 := rfl
theorem amount_band (a : Fin 4) (j : Fin 16) (c : Dev nD) (k : Fin 4) : (rd P xs).amount (kCell a j c) 0 k = bandCredit := rfl

theorem expect_bar (c : Dev nD) : (rd P xs).expect (barCell c) 0 = 4 := by
  unfold Schedule.expect Schedule.amountOf
  rw [duties_bar, Finset.sum_congr rfl fun k _ => amount_bar P xs c k]; rfl
theorem expect_band (a : Fin 4) (j : Fin 16) (c : Dev nD) (h : P.Far a.val c) : (rd P xs).expect (kCell a j c) 0 = bandCredit := by
  unfold Schedule.expect Schedule.amountOf
  rw [duties_band P xs a j c h, Finset.sum_singleton, amount_band]

theorem payload_bar (c : Dev nD) (k : Fin 4) : (rd P xs).payload (barCell c) 0 k = barPay P c k := rfl
theorem payload_band (a : Fin 4) (j : Fin 16) (c : Dev nD) (k : Fin 4) : (rd P xs).payload (kCell a j c) 0 k = bandPay P xs a.val j c := by
  show bandPay P xs (((ksem a j).val - 3) / 16) ⟨((ksem a j).val - 3) % 16, _⟩ c = _
  simp only [ksem_kind, ksem_band]

theorem rest_band (a : Fin 4) (j : Fin 16) (c : Dev nD) (h : P.Far a.val c) :
    bigSep ((rd P xs).duties (kCell a j c) 0 \ ∅) (fun k => (rd P xs).payload (kCell a j c) 0 k) = bandPay P xs a.val j c := by
  rw [Finset.sdiff_empty, duties_band P xs a j c h, bigSep_singleton, payload_band]

theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem rest_bar (c : Dev nD) :
    bigSep ((rd P xs).duties (barCell c) 0 \ ∅) (fun k => (rd P xs).payload (barCell c) 0 k)
      = iprop(barPay P c 0 ∗ barPay P c 1 ∗ barPay P c 2 ∗ barPay P c 3) := by
  rw [Finset.sdiff_empty, duties_bar, bigSep_four]; rfl

end Sched

/-! ## What each device owes at entry, and the levels -/

/-- The bands from the `k`-th on, and the ones before it. -/
def tl (k : ℕ) : Finset (Fin 16) := Finset.univ.filter fun j => k ≤ j.val
def hd (k : ℕ) : Finset (Fin 16) := Finset.univ.filter fun j => j.val < k

theorem tl_zero : tl 0 = Finset.univ := by decide
theorem hd_zero : hd 0 = ∅ := by decide
theorem tl_end : tl 16 = ∅ := by decide
theorem hd_end : hd 16 = Finset.univ := by decide
theorem tl_step (k : ℕ) (h : k < 16) : tl k = insert ⟨k, h⟩ (tl (k + 1)) := by
  ext j; simp only [tl, Finset.mem_filter, Finset.mem_univ, true_and, Finset.mem_insert, Fin.ext_iff]; omega
theorem hd_step (k : ℕ) (h : k < 16) : hd (k + 1) = insert ⟨k, h⟩ (hd k) := by
  ext j; simp only [hd, Finset.mem_filter, Finset.mem_univ, true_and, Finset.mem_insert, Fin.ext_iff]; omega
theorem tl_not (k : ℕ) (h : k < 16) : (⟨k, h⟩ : Fin 16) ∉ tl (k + 1) := by
  simp only [tl, Finset.mem_filter, Finset.mem_univ, true_and]; omega
theorem hd_not (k : ℕ) (h : k < 16) : (⟨k, h⟩ : Fin 16) ∉ hd k := by
  simp only [hd, Finset.mem_filter, Finset.mem_univ, true_and]; omega

/-- A band's credit on a leg: nothing where the block stays. -/
def n1 (c : Dev nD) : ℕ := if P.mid c = c then 0 else bandCredit
def n2 (c : Dev nD) : ℕ := if P.fwd c = c then 0 else bandCredit

theorem n1_far {c : Dev nD} (h : P.mid c ≠ c) : n1 P c = bandCredit := if_neg h
theorem n2_far {c : Dev nD} (h : P.fwd c ≠ c) : n2 P c = bandCredit := if_neg h
theorem n1_near {c : Dev nD} (h : P.mid c = c) : n1 P c = 0 := if_pos h
theorem n2_near {c : Dev nD} (h : P.fwd c = c) : n2 P c = 0 := if_pos h

/-- The receive credits of each leg still owed from band `k` on. -/
def O1 (c : Dev nD) (k : ℕ) : CellTallies nD τ sig Unit := ∑ j ∈ tl k, tallyAt (kCell 1 j (P.mid c)) () (n1 P c)
def O2 (c : Dev nD) (k : ℕ) : CellTallies nD τ sig Unit := ∑ j ∈ tl k, tallyAt (kCell 3 j (P.fwd c)) () (n2 P c)

theorem O1_step (c : Dev nD) (k : ℕ) (h : k < 16) : O1 P c k = O1 P c (k + 1) + tallyAt (kCell 1 ⟨k, h⟩ (P.mid c)) () (n1 P c) := by
  unfold O1; rw [tl_step k h, Finset.sum_insert (tl_not k h), add_comm]
theorem O2_step (c : Dev nD) (k : ℕ) (h : k < 16) : O2 P c k = O2 P c (k + 1) + tallyAt (kCell 3 ⟨k, h⟩ (P.fwd c)) () (n2 P c) := by
  unfold O2; rw [tl_step k h, Finset.sum_insert (tl_not k h), add_comm]
theorem O1_end (c : Dev nD) : O1 P c 16 = 0 := by unfold O1; rw [tl_end, Finset.sum_empty]
theorem O2_end (c : Dev nD) : O2 P c 16 = 0 := by unfold O2; rw [tl_end, Finset.sum_empty]

theorem O1_near (c : Dev nD) (k : ℕ) (h : P.mid c = c) : O1 P c k = 0 := by
  unfold O1; rw [n1_near P h]; exact Finset.sum_eq_zero fun j _ => by simp [tallyAt]
theorem O2_near (c : Dev nD) (k : ℕ) (h : P.fwd c = c) : O2 P c k = 0 := by
  unfold O2; rw [n2_near P h]; exact Finset.sum_eq_zero fun j _ => by simp [tallyAt]

/-- Still owed once the first `k` entry signals are out. -/
def OB (c : Dev nD) (k : ℕ) : CellTallies nD τ sig Unit :=
  ∑ i ∈ (Finset.univ : Finset (Fin 4)).filter (fun i => k ≤ i.val), tallyAt (barCell (P.dst i c)) () 1

theorem OB_step (c : Dev nD) (k : ℕ) (h : k < 4) : OB P c k = OB P c (k + 1) + tallyAt (barCell (P.dst ⟨k, h⟩ c)) () 1 := by
  unfold OB
  rw [show (Finset.univ : Finset (Fin 4)).filter (fun i => k ≤ i.val)
      = insert ⟨k, h⟩ ((Finset.univ : Finset (Fin 4)).filter fun i => k + 1 ≤ i.val) from by
    ext j; simp only [Finset.mem_filter, Finset.mem_univ, true_and, Finset.mem_insert, Fin.ext_iff]; omega,
    Finset.sum_insert (by simp), add_comm]
theorem OB_end (c : Dev nD) : OB P c 4 = 0 := by
  unfold OB; rw [show (Finset.univ : Finset (Fin 4)).filter (fun i => 4 ≤ i.val) = ∅ from by decide, Finset.sum_empty]

/-- What device `c` owes at entry: both legs' receive credits and its four entry signals. -/
def O₀ (c : Dev nD) : CellTallies nD τ sig Unit := O2 P c 0 + O1 P c 0 + OB P c 0

def L (g : GSem nD τ sig) : Finset Unit := if g.1.2 = .tc then {()} else ∅
/-- Barrier cells at 1, first-leg receives at 2, second-leg receives at 3, the rest at 0. -/
def lv (g : GSem nD τ sig) (_ : Unit) : ℕ := match g.2 with
  | .reg _ => 1
  | .dma n => if (n.val - 3) / 16 = 1 then 2 else if (n.val - 3) / 16 = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_first (c : Dev nD) (j : Fin 16) (u : Unit) : lv (kCell 1 j c) u = 2 := by
  show (if ((ksem 1 j).val - 3) / 16 = 1 then 2 else _) = 2
  rw [ksem_kind]; rfl
theorem lv_second (c : Dev nD) (j : Fin 16) (u : Unit) : lv (kCell 3 j c) u = 3 := by
  show (if ((ksem 3 j).val - 3) / 16 = 1 then 2 else if ((ksem 3 j).val - 3) / 16 = 3 then 3 else 0) = 3
  rw [ksem_kind]; rfl

/-- A positive entry of a sum of tallies is at one of its cells. -/
theorem tally_sum_pos {ι : Type} (S : Finset ι) (cell : ι → GSem nD τ sig) (n : ℕ) {g : GSem nD τ sig} {u : Unit}
    (h : 0 < (∑ j ∈ S, tallyAt (cell j) () n : CellTallies nD τ sig Unit) g u) : ∃ j ∈ S, g = cell j := by
  rw [Finset.sum_apply, Finsupp.finset_sum_apply] at h
  obtain ⟨j, hj, hp⟩ := Finset.exists_ne_zero_of_sum_ne_zero h.ne'
  refine ⟨j, hj, ?_⟩
  rw [tallyAt_apply] at hp
  split at hp
  · next hg => exact hg.1
  · exact absurd rfl hp

theorem O2_pos {c : Dev nD} {k : ℕ} {g : GSem nD τ sig} {u : Unit} (h : 0 < O2 P c k g u) : ∃ j, g = kCell 3 j (P.fwd c) := by
  obtain ⟨j, -, hj⟩ := tally_sum_pos _ _ _ h; exact ⟨j, hj⟩
theorem O1_pos {c : Dev nD} {k : ℕ} {g : GSem nD τ sig} {u : Unit} (h : 0 < O1 P c k g u) : ∃ j, g = kCell 1 j (P.mid c) := by
  obtain ⟨j, -, hj⟩ := tally_sum_pos _ _ _ h; exact ⟨j, hj⟩
theorem OB_pos {c : Dev nD} {k : ℕ} {g : GSem nD τ sig} {u : Unit} (h : 0 < OB P c k g u) : ∃ i, g = barCell (P.dst i c) := by
  obtain ⟨j, -, hj⟩ := tally_sum_pos _ _ _ h; exact ⟨j, hj⟩

theorem mem_L (c : Dev nD) (sm : SemLoc sig) (u : Unit) : u ∈ L ((c : Thread nD τ), sm) := by
  rw [L_tc]; exact Finset.mem_singleton_self _

/-- The barrier may be waited for while both legs are owed. -/
theorem mayWait_bar (c : Dev nD) :
    (levAts L lv : sProp 𝕄) ⊢ MayWait (c : Thread nD τ) (.reg barrier0) () (O2 P c 0 + O1 P c 0) :=
  MayOwe.of_cut (L := L) (lev := lv) 1 (fun p hp => by rw [Finset.mem_singleton.mp hp]; exact mem_L _ _ _)
    (fun g u hg => by
      rw [Pi.add_apply, Finsupp.add_apply] at hg
      rcases Nat.add_pos_iff_pos_or_pos.mp hg with h | h
      · obtain ⟨j, rfl⟩ := O2_pos P h; exact mem_L _ _ _
      · obtain ⟨j, rfl⟩ := O1_pos P h; exact mem_L _ _ _)
    (fun p hp => by rw [Finset.mem_singleton.mp hp]; exact le_of_eq (lv_bar c ()))
    (fun g u hg => by
      rw [Pi.add_apply, Finsupp.add_apply] at hg
      rcases Nat.add_pos_iff_pos_or_pos.mp hg with h | h
      · obtain ⟨j, rfl⟩ := O2_pos P h; rw [lv_second]; decide
      · obtain ⟨j, rfl⟩ := O1_pos P h; rw [lv_first]; decide)

/-- A first-leg receive may be waited for while the second leg is owed. -/
theorem mayWait_first (c : Dev nD) (j : Fin 16) (k : ℕ) :
    (levAts L lv : sProp 𝕄) ⊢ MayWait (c : Thread nD τ) (.dma (ksem 1 j)) () (O2 P c k) :=
  MayOwe.of_cut (L := L) (lev := lv) 2 (fun p hp => by rw [Finset.mem_singleton.mp hp]; exact mem_L _ _ _)
    (fun g u hg => by obtain ⟨j, rfl⟩ := O2_pos P hg; exact mem_L _ _ _)
    (fun p hp => by rw [Finset.mem_singleton.mp hp]; exact le_of_eq (lv_first c j ()))
    (fun g u hg => by obtain ⟨j, rfl⟩ := O2_pos P hg; rw [lv_second]; decide)

/-- Everything owed at entry is above level 0. -/
theorem O₀_above (c : Dev nD) (g : GSem nD τ sig) (u : Unit) (h : 0 < O₀ P c g u) : u ∈ L g ∧ 0 < lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, rfl⟩ := O2_pos P h; exact ⟨mem_L _ _ _, by rw [lv_second]; decide⟩
    · obtain ⟨j, rfl⟩ := O1_pos P h; exact ⟨mem_L _ _ _, by rw [lv_first]; decide⟩
  · obtain ⟨i, rfl⟩ := OB_pos P h; exact ⟨mem_L _ _ _, by rw [lv_bar]; decide⟩

end Cert.Move

end
-- ==== Proof.Steps.lean ====
/- The steps of the move, each stated once for every band: sending and receiving a band on either leg, the
   waits at the end, and the states they lead from and to. -/
module

public import proofs.«01_k».proof.Proof.Protocol

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A core's program of the kernel's body. -/
abbrev Body (F : FTy → Type) [FloatOps F] (α : Type) : Type 1 := Prog (TpuEff nD τ sig (Elt F) Λ₀ .tc) α

/-- Running a piece of the body on device `c`. -/
abbrev Run {α : Type} (c : Dev nD) (p : Body F α) (Q : α → sProp 𝕄) : sProp 𝕄 :=
  wp frame (wpE (defs₀ (F := F)) 𝒱₀ c none) Set.univ p Q

/-- One piece after another. -/
theorem Run.seq {α β : Type} {c : Dev nD} {p : Body F α} {q : α → Body F β} {A B : sProp 𝕄} {Q : β → sProp 𝕄}
    (h1 : A ⊢ Run c p fun _ => B) (h2 : ∀ x, B ⊢ Run c (q x) Q) : A ⊢ Run c (p >>= q) Q := by
  unfold Run
  rw [wp_bind]
  exact h1.trans (wp_mono _ _ _ fun x => h2 x)

/-- A piece that does nothing. -/
theorem Run.done {α : Type} {c : Dev nD} {a : α} {Q : α → sProp 𝕄} : Q a ⊢ Run c (pure a) Q := by
  unfold Run
  rw [Prog.pure_eq_ret, wp_ret]
  iintro H; imodintro; iexact H

/-! ## What every step may consult -/

def barEmb : Dev nD ↪ GSem nD τ sig := ⟨fun c => barCell c, fun _ _ h => congrArg (fun g : GSem nD τ sig => g.1.1) h⟩
/-- The kernel's own semaphores, by kind and band. -/
abbrev osem (k : Fin 4 × Fin 16) : SemLoc sig := .dma (ksem k.1 k.2)
theorem osem_inj : Function.Injective osem := fun x y h => by
  have := ksem_inj (SemLoc.dma.inj h)
  exact Prod.ext this.1 this.2
def kEmb : Dev nD × (Fin 4 × Fin 16) ↪ GSem nD τ sig :=
  ⟨fun x => ((x.1 : Thread nD τ), osem x.2), fun _ _ h =>
    Prod.ext (congrArg (fun g : GSem nD τ sig => g.1.1) h) (osem_inj (congrArg Prod.snd h))⟩

abbrev barCells : Finset (GSem nD τ sig) := Finset.univ.map barEmb
abbrev kCells : Finset (GSem nD τ sig) := Finset.univ.map kEmb

theorem bar_mem (c : Dev nD) : barCell c ∈ (barCells ∪ kCells : Finset (GSem nD τ sig)) :=
  Finset.mem_union_left _ (Finset.mem_map_of_mem barEmb (Finset.mem_univ c))
theorem k_mem (a : Fin 4) (j : Fin 16) (c : Dev nD) : kCell a j c ∈ (barCells ∪ kCells : Finset (GSem nD τ sig)) :=
  Finset.mem_union_right _ (Finset.mem_map_of_mem kEmb (Finset.mem_univ (c, (a, j))))

variable (P : Plan) (xs : Dev nD → Blk F)

/-- Every cell's invariant, under one map of names, and that every barrier cell's round is reached. -/
def records (κ : GSem nD τ sig → ℕ) : sProp 𝕄 :=
  iprop((bigSep (barCells ∪ kCells) fun g => cellInv ER (rd P xs) (κ g) g) ∗ bigSep barCells fun g => reached ER g 0)

instance records_persistent (κ : GSem nD τ sig → ℕ) : BI.Persistent (records P xs κ) := by unfold records; infer_instance

theorem inv_at (κ : GSem nD τ sig → ℕ) {g : GSem nD τ sig} (hg : g ∈ (barCells ∪ kCells : Finset (GSem nD τ sig))) :
    records P xs κ ⊢ cellInv ER (rd P xs) (κ g) g := by
  unfold records; iintro ⟨H, -⟩; iapply (show (bigSep (barCells ∪ kCells) fun g => (cellInv ER (rd P xs) (κ g) g : sProp 𝕄)) ⊢ cellInv ER (rd P xs) (κ g) g from bigSep_elim hg); iexact H
theorem bar_reached (κ : GSem nD τ sig → ℕ) (c : Dev nD) : records P xs κ ⊢ reached ER (barCell c) 0 := by
  unfold records; iintro ⟨-, H⟩; iapply (show (bigSep barCells fun g => (reached ER g 0 : sProp 𝕄)) ⊢ reached ER (barCell c) 0 from bigSep_elim (Finset.mem_map_of_mem barEmb (Finset.mem_univ c))); iexact H

/-- Device `c`'s own copy cells are open. -/
def ownOpen (c : Dev nD) : sProp 𝕄 := bigSep Finset.univ fun k : Fin 4 × Fin 16 => reached ER (kCell k.1 k.2 c) 0
instance ownOpen_persistent (c : Dev nD) : BI.Persistent (ownOpen (F := F) c) := by unfold ownOpen; infer_instance
theorem own_open (c : Dev nD) (a : Fin 4) (j : Fin 16) : ownOpen c ⊢ (reached ER (kCell a j c) 0 : sProp 𝕄) :=
  bigSep_elim (Φ := fun k : Fin 4 × Fin 16 => (reached ER (kCell k.1 k.2 c) 0 : sProp 𝕄)) (Finset.mem_univ (a, j))

/-- The receive cells `c`'s copies go to are open. -/
def peerOpen (c : Dev nD) : sProp 𝕄 :=
  iprop((bigSep Finset.univ fun j => reached ER (kCell 1 j (P.mid c)) 0) ∗ bigSep Finset.univ fun j => reached ER (kCell 3 j (P.fwd c)) 0)
instance peerOpen_persistent (c : Dev nD) : BI.Persistent (peerOpen (F := F) P c) := by unfold peerOpen; infer_instance
theorem mid_open (c : Dev nD) (j : Fin 16) : peerOpen P c ⊢ (reached ER (kCell 1 j (P.mid c)) 0 : sProp 𝕄) := by
  unfold peerOpen; iintro ⟨H, -⟩
  iapply (show (bigSep Finset.univ fun j : Fin 16 => (reached ER (kCell 1 j (P.mid c)) 0 : sProp 𝕄)) ⊢ reached ER (kCell 1 j (P.mid c)) 0 from bigSep_elim (Finset.mem_univ j)); iexact H
theorem fwd_open (c : Dev nD) (j : Fin 16) : peerOpen P c ⊢ (reached ER (kCell 3 j (P.fwd c)) 0 : sProp 𝕄) := by
  unfold peerOpen; iintro ⟨-, H⟩
  iapply (show (bigSep Finset.univ fun j : Fin 16 => (reached ER (kCell 3 j (P.fwd c)) 0 : sProp 𝕄)) ⊢ reached ER (kCell 3 j (P.fwd c)) 0 from bigSep_elim (Finset.mem_univ j)); iexact H

/-- All of it, after the entry handshake. -/
def Ctx (κ : GSem nD τ sig → ℕ) (c : Dev nD) : sProp 𝕄 := iprop(records P xs κ ∗ levAts L lv ∗ ownOpen c ∗ peerOpen P c)
instance Ctx_persistent (κ : GSem nD τ sig → ℕ) (c : Dev nD) : BI.Persistent (Ctx P xs κ c) := by unfold Ctx; infer_instance

/-- Device `c` owing `O`, whatever it has waited for. -/
abbrev owing (c : Dev nD) (O : CellTallies nD τ sig Unit) : sProp 𝕄 := iprop(∃ W, owes (c : Thread nD τ) O W)

/-! ## One copy, one wait -/

/-- Send band `j` on the first leg: the input band and the peer's intermediate band go in; the send credit comes out. -/
theorem send_first (κ : GSem nD τ sig → ℕ) (c : Dev nD) (j : Fin 16) (hfar : P.mid c ≠ c) (f : Blk F)
    (O : CellTallies nD τ sig Unit) (dv : Dev nD) (hdv : dv = P.mid c) (s r : DmaSem sig) (hs : s = ksem 0 j) (hr : r = ksem 1 j) :
    iprop(Ctx P xs κ c ∗ (owing c (O + tallyAt (kCell 1 j (P.mid c)) () bandCredit) ∗ xBand c j (xs c) ∗ gBand (P.mid c) j f
        ∗ dutyTok ER (kCell 0 j c) 0 0 ∗ dutyTok ER (kCell 1 j (P.mid c)) 0 0))
      ⊢ Run c (Prog.lift (.enqueueDma (cut xM j) (.remote (Dev.tc dv) (cut gM j) (.dma s)) (.dma r)
          (View.wordExact_bits rfl) (View.wordExact_bits rfl) ⟨⟨rfl, Or.inl rfl⟩, trivial⟩) : Body F _)
        fun _ => iprop(owing c O ∗ cred (tallyAt (kCell 0 j c) () bandCredit)) := by
  subst hdv hs hr
  unfold Ctx Run Prog.lift
  iintro ⟨⟨#HR, #Hlev, #HO1, #HP⟩, ⟨%W, HO⟩, Hx, Hg, Ht0, Ht1⟩
  iapply (Rounds.wp_send_pointsTo 𝒱₀ ER (rd P xs) (c : Thread nD τ) none (c' := (P.mid c : Thread nD τ)) (src := cut xM j) (dst := cut gM j)
      (sS := .dma (ksem 0 j)) (sem := .dma (ksem 1 j)) (q := fullShare) (fs := xs c) (κ₁ := κ (kCell 0 j c)) (κ₂ := κ (kCell 1 j (P.mid c)))
      (r₁ := 0) (r₂ := 0) (d₁ := 0) (d₂ := 0) (fd := f)
      (by rw [duties_band P xs 0 j c hfar]; exact Finset.mem_singleton_self _)
      (by rw [duties_band P xs 1 j (P.mid c) (by show P.mid (P.mid c) ≠ P.mid c; exact fun h => hfar (P.mid.injective h))]; exact Finset.mem_singleton_self _)
      () () bandCredit rfl rfl rfl O rfl (W := W)
      (by rw [payload_band]; exact BI.Entails.refl _)
      (by
        rw [payload_band]
        refine (Entails.of_eq (pointsTo_congr (g := xs c) ?_)).trans (Entails.of_eq ?_)
        · intro i hi; exact land_xg j (xs c) f i (by rw [← set_g]; exact hi)
        · show _ = gBand (P.mid c) j (P.held xs (P.mid c)); rw [P.held_mid])) $$ [HO Hx Hg Ht0 Ht1]
  · isplitr; · iapply (inv_at P xs κ (k_mem 0 j c)); iexact HR
    isplitr; · iapply (inv_at P xs κ (k_mem 1 j (P.mid c))); iexact HR
    isplitl [Hx]; · iexact Hx
    isplitl [Hg]; · iexact Hg
    isplitl [HO]; · iexact HO
    isplitl [Ht0]; · iexact Ht0
    isplitr; · iapply (own_open c 0 j); iexact HO1
    isplitl [Ht1]; · iexact Ht1
    iapply (mid_open P c j); iexact HP
  iintro ⟨Hc, HO⟩
  rw [wp_ret]
  imodintro
  isplitl [HO]; · iexists _; iexact HO
  iexact Hc

/-- Send band `j` on the second leg: the own intermediate band and the peer's result band go in. -/
theorem send_second (κ : GSem nD τ sig → ℕ) (c : Dev nD) (j : Fin 16) (hfar : P.fwd c ≠ c) (f : Blk F)
    (O : CellTallies nD τ sig Unit) (dv : Dev nD) (hdv : dv = P.fwd c) (s r : DmaSem sig) (hs : s = ksem 2 j) (hr : r = ksem 3 j) :
    iprop(Ctx P xs κ c ∗ (owing c (O + tallyAt (kCell 3 j (P.fwd c)) () bandCredit) ∗ gBand c j (P.held xs c) ∗ oBand (P.fwd c) j f
        ∗ dutyTok ER (kCell 2 j c) 0 0 ∗ dutyTok ER (kCell 3 j (P.fwd c)) 0 0))
      ⊢ Run c (Prog.lift (.enqueueDma (cut gM j) (.remote (Dev.tc dv) (cut oM j) (.dma s)) (.dma r)
          (View.wordExact_bits rfl) (View.wordExact_bits rfl) ⟨⟨rfl, Or.inl rfl⟩, trivial⟩) : Body F _)
        fun _ => iprop(owing c O ∗ cred (tallyAt (kCell 2 j c) () bandCredit)) := by
  subst hdv hs hr
  unfold Ctx Run Prog.lift
  iintro ⟨⟨#HR, #Hlev, #HO1, #HP⟩, ⟨%W, HO⟩, Hx, Hg, Ht0, Ht1⟩
  iapply (Rounds.wp_send_pointsTo 𝒱₀ ER (rd P xs) (c : Thread nD τ) none (c' := (P.fwd c : Thread nD τ)) (src := cut gM j) (dst := cut oM j)
      (sS := .dma (ksem 2 j)) (sem := .dma (ksem 3 j)) (q := fullShare) (fs := P.held xs c) (κ₁ := κ (kCell 2 j c)) (κ₂ := κ (kCell 3 j (P.fwd c)))
      (r₁ := 0) (r₂ := 0) (d₁ := 0) (d₂ := 0) (fd := f)
      (by rw [duties_band P xs 2 j c hfar]; exact Finset.mem_singleton_self _)
      (by rw [duties_band P xs 3 j (P.fwd c) (by show P.fwd (P.fwd c) ≠ P.fwd c; exact fun h => hfar (P.fwd.injective h))]; exact Finset.mem_singleton_self _)
      () () bandCredit rfl rfl rfl O rfl (W := W)
      (by rw [payload_band]; exact BI.Entails.refl _)
      (by
        rw [payload_band]
        refine (Entails.of_eq (pointsTo_congr (g := P.held xs c) ?_)).trans (Entails.of_eq ?_)
        · intro i hi; exact land_go j (P.held xs c) f i (by rw [← set_o]; exact hi)
        · show _ = oBand (P.fwd c) j (P.final xs (P.fwd c)); rw [P.final_fwd])) $$ [HO Hx Hg Ht0 Ht1]
  · isplitr; · iapply (inv_at P xs κ (k_mem 2 j c)); iexact HR
    isplitr; · iapply (inv_at P xs κ (k_mem 3 j (P.fwd c))); iexact HR
    isplitl [Hx]; · iexact Hx
    isplitl [Hg]; · iexact Hg
    isplitl [HO]; · iexact HO
    isplitl [Ht0]; · iexact Ht0
    isplitr; · iapply (own_open c 2 j); iexact HO1
    isplitl [Ht1]; · iexact Ht1
    iapply (fwd_open P c j); iexact HP
  iintro ⟨Hc, HO⟩
  rw [wp_ret]
  imodintro
  isplitl [HO]; · iexists _; iexact HO
  iexact Hc

/-- Wait for the copy of band `j` at the own cell of kind `a`: what it hands over comes out. -/
theorem wait_band (κ : GSem nD τ sig → ℕ) (c : Dev nD) (a : Fin 4) (j : Fin 16) (hfar : P.Far a.val c)
    (O : CellTallies nD τ sig Unit) (hmay : (levAts L lv : sProp 𝕄) ⊢ MayWait (c : Thread nD τ) (.dma (ksem a j)) () O)
    (s : DmaSem sig) (hs : s = ksem a j) (S D : Memref sig .tc .vmem S1x64x1024 .f32) (hD : D.view.dmaCredit = bandCredit) :
    iprop(Ctx P xs κ c ∗ (owing c O ∗ cred (tallyAt (kCell a j c) () bandCredit) ∗ atPos ER (kCell a j c) 0 ∅ 0))
      ⊢ Run c (Prog.lift (.waitDma2 s S D (View.wordExact_bits rfl) (View.wordExact_bits rfl)) : Body F _)
        fun _ => iprop(owing c O ∗ atPos ER (kCell a j c) 1 ∅ 0 ∗ bandPay P xs a.val j c) := by
  subst hs
  unfold Ctx Run Prog.lift
  iintro ⟨⟨#HR, #Hlev, #HO1, #HP⟩, ⟨%W, HO⟩, Hc, Hat⟩
  rw [← hD]
  iapply (Rounds.wp_wait_rest_token 𝒱₀ ER (rd P xs) (c : Thread nD τ) none (κ := κ (kCell a j c))
      (wpE_waitDma2_eq 𝒱₀ (c : Thread nD τ) none Set.univ) (Set.mem_univ _) () (O := O) (W := W) (R := 0) (m := 0) (T := ∅)
      ((Nat.zero_add _).trans (hD.trans (expect_band P xs a j c hfar).symm))) $$ [Hc HO Hat]
  · isplitr; · iapply (inv_at P xs κ (k_mem a j c)); iexact HR
    isplitl [Hc]; · iexact Hc
    isplitl [HO]; · iexact HO
    isplitr; · iapply hmay; iexact Hlev
    iexact Hat
  iintro ⟨HO, Hat, -, Hpay⟩
  ihave Hp := (Entails.of_eq (rest_band P xs a j c hfar)) $$ Hpay
  rw [wp_ret]
  imodintro
  isplitl [HO]; · iexists _; iexact HO
  isplitl [Hat]; · iexact Hat
  iexact Hp

end Cert.Move

end
-- ==== Proof.Phases.lean ====
/- The phases of the move: the first leg's sends, the loop that receives each band and passes it on, and the
   waits at the end. Each stage of the program is stated once, at any band. -/
module

public import proofs.«01_k».proof.Proof.Steps

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem chain {A B D : sProp 𝕄} (h1 : A ⊢ B) (h2 : B ⊢ D) : A ⊢ D := h1.trans h2

/-- What each kind of copy hands over. -/
theorem pay_zero (P : Plan) (xs : Dev nD → Blk F) (j : Fin 16) (d : Dev nD) : bandPay P xs (0 : Fin 4).val j d = xBand d j (xs d) := rfl
theorem pay_one (P : Plan) (xs : Dev nD → Blk F) (j : Fin 16) (d : Dev nD) : bandPay P xs (1 : Fin 4).val j d = gBand d j (P.held xs d) := rfl
theorem pay_two (P : Plan) (xs : Dev nD → Blk F) (j : Fin 16) (d : Dev nD) : bandPay P xs (2 : Fin 4).val j d = gBand d j (P.held xs d) := rfl
theorem pay_three (P : Plan) (xs : Dev nD → Blk F) (j : Fin 16) (d : Dev nD) : bandPay P xs (3 : Fin 4).val j d = oBand d j (P.final xs d) := rfl

/-! ## A loop over the bands -/

theorem bigSep_cons {S : Finset (Fin 16)} {i : Fin 16} (hi : i ∉ S) {Φ : Fin 16 → sProp 𝕄} :
    bigSep (insert i S) Φ = iprop(Φ i ∗ bigSep S Φ) := bigSep_insert hi

/-- `k` bands are past: the tail still as `pre`, the head as `post`, device `c` owing `O`, beside `C`. -/
def Loop (C : sProp 𝕄) (c : Dev nD) (O : CellTallies nD τ sig Unit) (pre post : Fin 16 → sProp 𝕄) (k : ℕ) : sProp 𝕄 :=
  iprop(C ∗ (owing c O ∗ (bigSep (tl k) pre ∗ bigSep (hd k) post)))

/-- Within band `k`, which stands as `X`. -/
def At (C : sProp 𝕄) (c : Dev nD) (O : CellTallies nD τ sig Unit) (X : sProp 𝕄) (pre post : Fin 16 → sProp 𝕄) (k : ℕ) : sProp 𝕄 :=
  iprop(C ∗ ((owing c O ∗ X) ∗ (bigSep (tl (k + 1)) pre ∗ bigSep (hd k) post)))

theorem Loop.open {C : sProp 𝕄} {c : Dev nD} {O : CellTallies nD τ sig Unit} {pre post : Fin 16 → sProp 𝕄} (k : ℕ) (h : k < 16) :
    Loop C c O pre post k ⊢ At C c O (pre ⟨k, h⟩) pre post k := by
  unfold Loop At
  rw [tl_step k h, bigSep_cons (tl_not k h)]
  iintro ⟨HC, HO, ⟨Hp, Ht⟩, Hh⟩
  isplitl [HC]; · iexact HC
  isplitl [HO Hp]; · isplitl [HO] <;> iassumption
  isplitl [Ht] <;> iassumption

theorem Loop.close {C : sProp 𝕄} {c : Dev nD} {O : CellTallies nD τ sig Unit} {pre post : Fin 16 → sProp 𝕄} (k : ℕ) (h : k < 16) :
    At C c O (post ⟨k, h⟩) pre post k ⊢ Loop C c O pre post (k + 1) := by
  unfold Loop At
  rw [hd_step k h, bigSep_cons (hd_not k h)]
  iintro ⟨HC, ⟨HO, Hp⟩, Ht, Hh⟩
  isplitl [HC]; · iexact HC
  isplitl [HO]; · iexact HO
  isplitl [Ht]; · iexact Ht
  isplitl [Hp] <;> iassumption

theorem Loop.start {C : sProp 𝕄} {c : Dev nD} {O : CellTallies nD τ sig Unit} {pre post : Fin 16 → sProp 𝕄} :
    iprop(C ∗ (owing c O ∗ bigSep Finset.univ pre)) ⊢ Loop C c O pre post 0 := by
  unfold Loop
  rw [tl_zero, hd_zero, bigSep_empty]
  iintro ⟨HC, HO, Hp⟩
  isplitl [HC]; · iexact HC
  isplitl [HO]; · iexact HO
  isplitl [Hp]; · iexact Hp
  iempintro

theorem Loop.finish {C : sProp 𝕄} {c : Dev nD} {O : CellTallies nD τ sig Unit} {pre post : Fin 16 → sProp 𝕄} :
    Loop C c O pre post 16 ⊢ iprop(C ∗ (owing c O ∗ bigSep Finset.univ post)) := by
  unfold Loop
  rw [tl_end, hd_end, bigSep_empty]
  iintro ⟨HC, HO, -, Hp⟩
  isplitl [HC]; · iexact HC
  isplitl [HO] <;> iassumption

variable (P : Plan) (xs : Dev nD → Blk F) (κ : GSem nD τ sig → ℕ) (c : Dev nD)

/-- `C` lets a step consult the context as often as it likes. -/
abbrev Has (C : sProp 𝕄) : Prop := C ⊢ iprop(Ctx P xs κ c ∗ C)

theorem has_frame (R : sProp 𝕄) : Has P xs κ c iprop(Ctx P xs κ c ∗ R) := by
  iintro ⟨#H, HR⟩
  isplitr; · iexact H
  isplitr; · iexact H
  iexact HR

variable {P xs κ c}
variable {C : sProp (MT nD τ sig Unit (Elt F) ℕ UU ℕ)}
variable (hC : Has P xs κ c C)

include hC in
/-- A step on one band, inside the loop. -/
theorem At.step {α : Type} {p : Body F α} {O O' : CellTallies nD τ sig Unit} {X Y : sProp 𝕄} {pre post : Fin 16 → sProp 𝕄} {k : ℕ}
    (h : iprop(Ctx P xs κ c ∗ (owing c O ∗ X)) ⊢ Run c p fun _ => iprop(owing c O' ∗ Y)) :
    At C c O X pre post k ⊢ Run c p fun _ => At C c O' Y pre post k := by
  unfold At
  refine chain ?_ ((sep_mono_left h).trans
    ((wp_frame_r frame (wpE (defs₀ (F := F)) 𝒱₀ c none) Set.univ (R := iprop(C ∗ (bigSep (tl (k + 1)) pre ∗ bigSep (hd k) post)))).trans
      (wp_mono _ _ _ fun _ => ?_)))
  · iintro ⟨HC, HX, HR⟩
    ihave H := hC $$ HC
    icases H with ⟨Hc, HC⟩
    isplitl [Hc HX]; · isplitl [Hc] <;> iassumption
    isplitl [HC] <;> iassumption
  · iintro ⟨HX, HC, HR⟩
    isplitl [HC]; · iexact HC
    isplitl [HX] <;> iassumption

/-! ## The first leg's sends -/

variable (P xs c)

/-- Before band `j` is sent on the first leg, and after. -/
def preA (f : Blk F) (j : Fin 16) : sProp 𝕄 :=
  iprop(xBand c j (xs c) ∗ gBand (P.mid c) j f ∗ dutyTok ER (kCell 0 j c) 0 0 ∗ dutyTok ER (kCell 1 j (P.mid c)) 0 0)
def postA (j : Fin 16) : sProp 𝕄 := cred (tallyAt (kCell 0 j c) () bandCredit)

/-- `k` bands are sent. -/
abbrev SA (C : sProp 𝕄) (f : Blk F) (k : ℕ) : sProp 𝕄 := Loop C c (O2 P c 0 + O1 P c k) (preA P xs c f) (postA c) k

variable {P xs c}

include hC in
theorem SA.step {f : Blk F} (k : ℕ) (hk : k < 16) (hfar : P.mid c ≠ c) {dv : Dev nD} (hdv : dv = P.mid c)
    {s r : DmaSem sig} (hs : s = ksem 0 ⟨k, hk⟩) (hr : r = ksem 1 ⟨k, hk⟩) :
    SA P xs c C f k ⊢ Run c (Prog.lift (.enqueueDma (cut xM ⟨k, hk⟩) (.remote (Dev.tc dv) (cut gM ⟨k, hk⟩) (.dma s)) (.dma r)
          (View.wordExact_bits rfl) (View.wordExact_bits rfl) ⟨⟨rfl, Or.inl rfl⟩, trivial⟩) : Body F _)
        fun _ => SA P xs c C f (k + 1) := by
  refine (Loop.open k hk).trans ((At.step hC (O' := O2 P c 0 + O1 P c (k + 1)) (Y := postA c ⟨k, hk⟩) ?_).trans
    (wp_mono _ _ _ fun _ => Loop.close k hk))
  rw [O1_step P c k hk, n1_far P hfar, ← add_assoc]
  exact send_first P xs κ c ⟨k, hk⟩ hfar f (O2 P c 0 + O1 P c (k + 1)) dv hdv s r hs hr

/-! ## The loop -/

variable (P xs c)

/-- Band `j` on its way in, once in, and past: with the receive position of the first leg, and what the second
    leg needs. -/
def goC (f : Blk F) (j : Fin 16) : sProp 𝕄 :=
  iprop(oBand (P.fwd c) j f ∗ dutyTok ER (kCell 2 j c) 0 0 ∗ dutyTok ER (kCell 3 j (P.fwd c)) 0 0)
def preC (f : Blk F) (j : Fin 16) : sProp 𝕄 :=
  iprop(atPos ER (kCell 1 j c) 0 ∅ 0 ∗ goC P c f j
    ∗ if P.mid c = c then gBand c j (P.held xs c) else cred (tallyAt (kCell 1 j c) () bandCredit))
/-- A position where the copy is over, or does not happen. -/
def over (a : Fin 4) (j : Fin 16) : sProp 𝕄 := atPos ER (kCell a j c) (if P.Far a.val c then 1 else 0) ∅ 0
def midC (f : Blk F) (j : Fin 16) : sProp 𝕄 := iprop(over P c 1 j ∗ goC P c f j ∗ gBand c j (P.held xs c))
def postC (j : Fin 16) : sProp 𝕄 :=
  iprop(over P c 1 j
    ∗ if P.fwd c = c then iprop(gBand c j (P.held xs c) ∗ oBand c j (P.final xs c)) else cred (tallyAt (kCell 2 j c) () bandCredit))
/-- After the send's place in the program: done if the band moves, else as before. -/
def sentC (f : Blk F) (j : Fin 16) : sProp 𝕄 := if P.fwd c = c then midC P xs c f j else postC P xs c j

abbrev SC (C : sProp 𝕄) (f : Blk F) (k : ℕ) : sProp 𝕄 := Loop C c (O2 P c k) (preC P xs c f) (postC P xs c) k
abbrev MC (C : sProp 𝕄) (f : Blk F) (k : ℕ) (hk : k < 16) : sProp 𝕄 := At C c (O2 P c k) (midC P xs c f ⟨k, hk⟩) (preC P xs c f) (postC P xs c) k
abbrev TC (C : sProp 𝕄) (f : Blk F) (k : ℕ) (hk : k < 16) : sProp 𝕄 := At C c (O2 P c (k + 1)) (sentC P xs c f ⟨k, hk⟩) (preC P xs c f) (postC P xs c) k

theorem over_near {a : Fin 4} {j : Fin 16} (h : ¬ P.Far a.val c) : (over P c a j : sProp 𝕄) = atPos ER (kCell a j c) 0 ∅ 0 := by
  unfold over; rw [if_neg h]
theorem over_far {a : Fin 4} {j : Fin 16} (h : P.Far a.val c) : (over P c a j : sProp 𝕄) = atPos ER (kCell a j c) 1 ∅ 0 := by
  unfold over; rw [if_pos h]

variable {P xs c}

include hC in
/-- The receive's place in the program: a wait where the block moves, nothing where it stays. -/
theorem SC.recv {f : Blk F} (k : ℕ) (hk : k < 16) {v : BitVec 1} (hv : v = 1#1 ↔ P.mid c ≠ c)
    {s : DmaSem sig} (hs : s = ksem 1 ⟨k, hk⟩) {S D : Memref sig .tc .vmem S1x64x1024 .f32} (hD : D.view.dmaCredit = bandCredit)
    {α : Type} {K : Body F α} {Q : α → sProp 𝕄} (hK : MC P xs c C f k hk ⊢ Run c K Q) :
    SC P xs c C f k ⊢ Run c (if v = 1#1 then (do
        Prog.lift (.waitDma2 s S D (View.wordExact_bits rfl) (View.wordExact_bits rfl))
        K) else K) Q := by
  by_cases hm : P.mid c = c
  · rw [if_neg (fun h => (hv.mp h) hm)]
    refine (Loop.open k hk).trans (chain (Entails.of_eq ?_) hK)
    have hn : ¬ P.Far (1 : Fin 4).val c := by show ¬ (P.mid c ≠ c); exact fun h => h hm
    have e : preC P xs c f ⟨k, hk⟩ = midC P xs c f ⟨k, hk⟩ := by unfold preC midC; rw [over_near P c hn, if_pos hm]
    unfold MC
    rw [e]
  · rw [if_pos (hv.mpr hm)]
    have hfar : P.Far (1 : Fin 4).val c := by show P.mid c ≠ c; exact hm
    refine Run.seq ((Loop.open k hk).trans (At.step hC (O' := O2 P c k) (Y := midC P xs c f ⟨k, hk⟩) ?_)) fun _ => hK
    refine chain ?_ ((sep_mono_left (wait_band P xs κ c 1 ⟨k, hk⟩ hfar (O2 P c k) (mayWait_first P c ⟨k, hk⟩ k) s hs S D hD)).trans
      ((wp_frame_r frame (wpE (defs₀ (F := F)) 𝒱₀ c none) Set.univ (R := goC P c f ⟨k, hk⟩)).trans (wp_mono _ _ _ fun _ => ?_)))
    · unfold preC
      rw [if_neg hm]
      iintro ⟨HC, HO, Hat, Hg, Hc⟩
      isplitr [Hg]
      · isplitl [HC]; · iexact HC
        isplitl [HO]; · iexact HO
        isplitl [Hc] <;> iassumption
      iexact Hg
    · unfold midC
      rw [over_far P c hfar, pay_one]
      iintro ⟨⟨HO, Hat, Hb⟩, Hg⟩
      isplitl [HO]; · iexact HO
      isplitl [Hat]; · iexact Hat
      isplitl [Hg]; · iexact Hg
      iexact Hb

include hC in
/-- The send's place in the program. -/
theorem MC.send {f : Blk F} (k : ℕ) (hk : k < 16) {b : Prop} [Decidable b] (hb : b ↔ P.fwd c ≠ c)
    {dv : b → Dev nD} (hdv : ∀ h, dv h = P.fwd c) {s r : DmaSem sig} (hs : s = ksem 2 ⟨k, hk⟩) (hr : r = ksem 3 ⟨k, hk⟩)
    {α : Type} {K : Body F α} {Q : α → sProp 𝕄} (hK : TC P xs c C f k hk ⊢ Run c K Q) :
    MC P xs c C f k hk ⊢ Run c (if h : b then (do
        Prog.lift (.enqueueDma (cut gM ⟨k, hk⟩) (.remote (Dev.tc (dv h)) (cut oM ⟨k, hk⟩) (.dma s)) (.dma r)
          (View.wordExact_bits rfl) (View.wordExact_bits rfl) ⟨⟨rfl, Or.inl rfl⟩, trivial⟩)
        K) else K) Q := by
  by_cases hm : P.fwd c = c
  · rw [dif_neg (fun h => (hb.mp h) hm)]
    refine chain (Entails.of_eq ?_) hK
    unfold MC TC sentC
    rw [if_pos hm, O2_near P c k hm, O2_near P c (k + 1) hm]
  · rw [dif_pos (hb.mpr hm)]
    refine Run.seq (At.step hC (O' := O2 P c (k + 1)) (Y := sentC P xs c f ⟨k, hk⟩) ?_) fun _ => hK
    rw [O2_step P c k hk, n2_far P hm]
    refine chain ?_ ((sep_mono_left (send_second P xs κ c ⟨k, hk⟩ hm f (O2 P c (k + 1)) _ (hdv (hb.mpr hm)) s r hs hr)).trans
      ((wp_frame_r frame (wpE (defs₀ (F := F)) 𝒱₀ c none) Set.univ (R := over P c 1 ⟨k, hk⟩)).trans (wp_mono _ _ _ fun _ => ?_)))
    · unfold midC goC
      iintro ⟨HC, HO, Hat, ⟨Ho, Ht2, Ht3⟩, Hg⟩
      isplitr [Hat]
      · isplitl [HC]; · iexact HC
        isplitl [HO]; · iexact HO
        isplitl [Hg]; · iexact Hg
        isplitl [Ho]; · iexact Ho
        isplitl [Ht2] <;> iassumption
      iexact Hat
    · unfold sentC postC
      rw [if_neg hm, if_neg hm]
      iintro ⟨⟨HO, Hc⟩, Hat⟩
      isplitl [HO]; · iexact HO
      isplitl [Hat] <;> iassumption

include hC in
/-- The local copy's place in the program: where the band does not move on, it is copied here. -/
theorem TC.copy {f : Blk F} (k : ℕ) (hk : k < 16) {v : BitVec 1} (hv : v = 1#1 ↔ P.fwd c = c)
    {h1 h2 h3 h4} {α : Type} {K : Body F α} {Q : α → sProp 𝕄} (hK : SC P xs c C f (k + 1) ⊢ Run c K Q) :
    TC P xs c C f k hk ⊢ Run c (if v = 1#1 then (do
        let w : Vec F S1x64x1024 .f32 ← Prog.lift (.load gM (band ⟨k, hk⟩).toLoadRect h1)
        let _ ← Prog.lift (.load oM (band ⟨k, hk⟩).toLoadRect h2)
        Prog.lift (.store oM (band ⟨k, hk⟩) w Finset.univ h3 h4)
        K) else K) Q := by
  by_cases hm : P.fwd c = c
  · rw [if_pos (hv.mpr hm)]
    unfold TC At sentC midC goC Run
    rw [if_pos hm, hm]
    simp only [Prog.lift, Prog.bind_op, Prog.bind_ret]
    iintro ⟨HC, ⟨HO, Hat, ⟨Ho, Ht2, Ht3⟩, Hg⟩, HR⟩
    iapply (wp_load_rect 𝒱₀ (c : Thread nD τ) none Set.univ (m := gM) (r := band ⟨k, hk⟩) (Finset.Subset.refl _)) $$ Hg; iintro Hg
    iapply (wp_load_rect 𝒱₀ (c : Thread nD τ) none Set.univ (m := oM) (r := band ⟨k, hk⟩) (Finset.Subset.refl _)) $$ Ho; iintro Ho
    iapply (wp_store 𝒱₀ (c : Thread nD τ) none Set.univ (m := oM) (r := band ⟨k, hk⟩) (Mk := Finset.univ) (S := (cut oM ⟨k, hk⟩).view.set) (Finset.Subset.refl _)) $$ Ho; iintro Ho
    iapply hK
    iapply (Loop.close (C := C) (c := c) (O := O2 P c (k + 1)) (pre := preC P xs c f) (post := postC P xs c) k hk)
    unfold At postC
    rw [if_pos hm]
    isplitl [HC]; · iexact HC
    isplitr [HR]
    · isplitl [HO]; · iexact HO
      isplitl [Hat]; · iexact Hat
      isplitl [Hg]; · iexact Hg
      have e : P.final xs c = P.held xs c := by
        unfold Plan.final; rw [(Equiv.symm_apply_eq P.fwd).mpr hm.symm]
      rw [e]
      iapply (Entails.of_eq (pointsTo_congr (f := _) (g := P.held xs c) (fun i hi => land_go ⟨k, hk⟩ (P.held xs c) f i (by rw [← set_o]; exact hi)))) $$ Ho
    iexact HR
  · rw [if_neg (fun h => hm (hv.mp h))]
    refine chain (chain (Entails.of_eq ?_) (Loop.close k hk)) hK
    unfold TC sentC
    rw [if_neg hm]

/-! ## The waits at the end -/

variable (P xs c)

/-- The first leg's send of band `j`, waited for: the input band is back. -/
def preD (j : Fin 16) : sProp 𝕄 := iprop(atPos ER (kCell 0 j c) 0 ∅ 0 ∗ cred (tallyAt (kCell 0 j c) () bandCredit))
def postD (j : Fin 16) : sProp 𝕄 := iprop(over P c 0 j ∗ xBand c j (xs c))
abbrev SD (C : sProp 𝕄) (k : ℕ) : sProp 𝕄 := Loop C c 0 (preD c) (postD P xs c) k

/-- The second leg's send and receive of band `j`: the intermediate band and the result band are back. -/
def preE (j : Fin 16) : sProp 𝕄 :=
  iprop((atPos ER (kCell 2 j c) 0 ∅ 0 ∗ cred (tallyAt (kCell 2 j c) () bandCredit)) ∗ (atPos ER (kCell 3 j c) 0 ∅ 0 ∗ cred (tallyAt (kCell 3 j c) () bandCredit)))
def midE (j : Fin 16) : sProp 𝕄 :=
  iprop((over P c 2 j ∗ gBand c j (P.held xs c)) ∗ (atPos ER (kCell 3 j c) 0 ∅ 0 ∗ cred (tallyAt (kCell 3 j c) () bandCredit)))
def postE (j : Fin 16) : sProp 𝕄 :=
  iprop((over P c 2 j ∗ gBand c j (P.held xs c)) ∗ (over P c 3 j ∗ oBand c j (P.final xs c)))
abbrev SE (C : sProp 𝕄) (k : ℕ) : sProp 𝕄 := Loop C c 0 (preE c) (postE P xs c) k
abbrev ME (C : sProp 𝕄) (k : ℕ) (hk : k < 16) : sProp 𝕄 := At C c 0 (midE P xs c ⟨k, hk⟩) (preE c) (postE P xs c) k

theorem mayWait_done (sm : SemLoc sig) : (levAts L lv : sProp 𝕄) ⊢ MayWait (c : Thread nD τ) sm () (0 : CellTallies nD τ sig Unit) := by
  rw [MayWait_zero]; iintro -; iempintro

variable {P xs c}

include hC in
theorem SD.step (k : ℕ) (hk : k < 16) (hfar : P.mid c ≠ c) {s : DmaSem sig} (hs : s = ksem 0 ⟨k, hk⟩)
    {S D : Memref sig .tc .vmem S1x64x1024 .f32} (hD : D.view.dmaCredit = bandCredit) :
    SD P xs c C k ⊢ Run c (Prog.lift (.waitDma2 s S D (View.wordExact_bits rfl) (View.wordExact_bits rfl)) : Body F _)
        fun _ => SD P xs c C (k + 1) := by
  have hf : P.Far (0 : Fin 4).val c := by show P.mid c ≠ c; exact hfar
  refine (Loop.open k hk).trans ((At.step hC (O' := 0) (Y := postD P xs c ⟨k, hk⟩) ?_).trans (wp_mono _ _ _ fun _ => Loop.close k hk))
  refine chain ?_ ((wait_band P xs κ c 0 ⟨k, hk⟩ hf 0 (mayWait_done c _) s hs S D hD).trans (wp_mono _ _ _ fun _ => ?_))
  · unfold preD
    iintro ⟨HC, HO, Hat, Hc⟩
    isplitl [HC]; · iexact HC
    isplitl [HO]; · iexact HO
    isplitl [Hc] <;> iassumption
  · unfold postD
    rw [over_far P c hf]
    exact BI.Entails.refl _

include hC in
theorem SE.step (k : ℕ) (hk : k < 16) (hfar : P.fwd c ≠ c) {s : DmaSem sig} (hs : s = ksem 2 ⟨k, hk⟩)
    {S D : Memref sig .tc .vmem S1x64x1024 .f32} (hD : D.view.dmaCredit = bandCredit) :
    SE P xs c C k ⊢ Run c (Prog.lift (.waitDma2 s S D (View.wordExact_bits rfl) (View.wordExact_bits rfl)) : Body F _)
        fun _ => ME P xs c C k hk := by
  have hf : P.Far (2 : Fin 4).val c := by show P.fwd c ≠ c; exact hfar
  refine (Loop.open k hk).trans (At.step hC (O' := 0) (Y := midE P xs c ⟨k, hk⟩) ?_)
  refine chain ?_ ((sep_mono_left (wait_band P xs κ c 2 ⟨k, hk⟩ hf 0 (mayWait_done c _) s hs S D hD)).trans
    ((wp_frame_r frame (wpE (defs₀ (F := F)) 𝒱₀ c none) Set.univ
      (R := iprop(atPos ER (kCell 3 ⟨k, hk⟩ c) 0 ∅ 0 ∗ cred (tallyAt (kCell 3 ⟨k, hk⟩ c) () bandCredit)))).trans (wp_mono _ _ _ fun _ => ?_)))
  · unfold preE
    iintro ⟨HC, HO, ⟨Hat, Hc⟩, H3⟩
    isplitr [H3]
    · isplitl [HC]; · iexact HC
      isplitl [HO]; · iexact HO
      isplitl [Hc] <;> iassumption
    iexact H3
  · unfold midE
    rw [over_far P c hf, pay_two]
    iintro ⟨⟨HO, Hat, Hb⟩, H3⟩
    isplitl [HO]; · iexact HO
    isplitl [Hat Hb]; · isplitl [Hat] <;> iassumption
    iexact H3

include hC in
theorem ME.step (k : ℕ) (hk : k < 16) (hfar : P.fwd c ≠ c) {s : DmaSem sig} (hs : s = ksem 3 ⟨k, hk⟩)
    {S D : Memref sig .tc .vmem S1x64x1024 .f32} (hD : D.view.dmaCredit = bandCredit) :
    ME P xs c C k hk ⊢ Run c (Prog.lift (.waitDma2 s S D (View.wordExact_bits rfl) (View.wordExact_bits rfl)) : Body F _)
        fun _ => SE P xs c C (k + 1) := by
  have hf : P.Far (3 : Fin 4).val c := by show P.fwd c ≠ c; exact hfar
  refine (At.step hC (O' := 0) (Y := postE P xs c ⟨k, hk⟩) ?_).trans (wp_mono _ _ _ fun _ => Loop.close k hk)
  refine chain ?_ ((sep_mono_left (wait_band P xs κ c 3 ⟨k, hk⟩ hf 0 (mayWait_done c _) s hs S D hD)).trans
    ((wp_frame_r frame (wpE (defs₀ (F := F)) 𝒱₀ c none) Set.univ
      (R := iprop(over P c 2 ⟨k, hk⟩ ∗ gBand c ⟨k, hk⟩ (P.held xs c)))).trans (wp_mono _ _ _ fun _ => ?_)))
  · unfold midE
    iintro ⟨HC, HO, H2, ⟨Hat, Hc⟩⟩
    isplitr [H2]
    · isplitl [HC]; · iexact HC
      isplitl [HO]; · iexact HO
      isplitl [Hc] <;> iassumption
    iexact H2
  · unfold postE
    rw [over_far P c hf, pay_three]
    iintro ⟨⟨HO, Hat, Hb⟩, H2⟩
    isplitl [HO]; · iexact HO
    isplitl [H2]; · iexact H2
    isplitl [Hat] <;> iassumption

end Cert.Move

end
-- ==== Proof.Parts.lean ====
/- The body's straight runs of copies and waits, part by part. -/
module

public import proofs.«01_k».proof.Proof.Phases

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged parameters. -/
abbrev tM : Memref sig .tc .smem S4 .i32 := Memref.whole cc0_stg0_0

/-- The parameters device `c` reads name the plan's devices, and its tests say whether a leg moves its block. -/
structure Words (P : Plan) (c : Dev nD) (v3 v4 : BitVec 32) : Prop where
  mid : k0_dev5 v3 = (P.mid c).val
  fwd : k0_dev21 v4 = (P.fwd c).val
  far1 : k0_cond1 c v3 = 1#1 ↔ P.mid c ≠ c
  far2 : k0_cond4 c v4 = 1#1 ↔ P.fwd c ≠ c

/-- The two flags device `c` computes from them. -/
structure Flags (P : Plan) (c : Dev nD) (v5 v6 : BitVec 1) : Prop where
  far1 : v5 = 1#1 ↔ P.mid c ≠ c
  far2 : v6 = 1#1 ↔ P.fwd c ≠ c

/-- A flag widened and tested is the flag. -/
theorem flag_up (v : BitVec 1) : Scalar.cmpi .ne (Scalar.extui v : BitVec 32) 0#32 = 1#1 ↔ v = 1#1 := by
  revert v; decide

/-- A flag flipped, widened and tested is the flag's denial. -/
theorem flag_down (v : BitVec 1) : Scalar.cmpi .ne (Scalar.extui (Scalar.xori v 1#1) : BitVec 32) 0#32 = 1#1 ↔ ¬ v = 1#1 := by
  revert v; decide

variable {P : Plan} {c : Dev nD}

theorem Flags.recv {v5 v6 : BitVec 1} (h : Flags P c v5 v6) :
    Scalar.cmpi .ne (Scalar.extui v5 : BitVec 32) 0#32 = 1#1 ↔ P.mid c ≠ c := (flag_up v5).trans h.far1
theorem Flags.stay1 {v5 v6 : BitVec 1} (h : Flags P c v5 v6) :
    Scalar.cmpi .ne (Scalar.extui (Scalar.xori v5 1#1) : BitVec 32) 0#32 = 1#1 ↔ P.mid c = c :=
  (flag_down v5).trans ((not_congr h.far1).trans not_not)
theorem Flags.move {v5 v6 : BitVec 1} (h : Flags P c v5 v6) :
    Scalar.cmpi .ne (Scalar.extui v6 : BitVec 32) 0#32 = 1#1 ↔ P.fwd c ≠ c := (flag_up v6).trans h.far2
theorem Flags.stay2 {v5 v6 : BitVec 1} (h : Flags P c v5 v6) :
    Scalar.cmpi .ne (Scalar.extui (Scalar.xori v6 1#1) : BitVec 32) 0#32 = 1#1 ↔ P.fwd c = c :=
  (flag_down v6).trans ((not_congr h.far2).trans not_not)

variable {xs : Dev nD → Blk F} {κ : GSem nD τ sig → ℕ}
variable {C : sProp (MT nD τ sig Unit (Elt F) ℕ UU ℕ)}
variable (hC : Has P xs κ c C) {v3 v4 : BitVec 32} {v5 v6 : BitVec 1} (hw : Words P c v3 v4) (hv : Flags P c v5 v6)
variable (ht : (tM).IsWhole) (hx : (xM).IsWhole) (ho : (oM).IsWhole) (hg : (gM).IsWhole)

/-! ## The first leg's sends, three bands a part -/

include hC hw in
theorem part1 {f : Blk F} (h5 : k0_chk5 c v3) (h1 : k0_cond1 c v3 = 1#1) :
    SA P xs c C f 0 ⊢ Run c (k0_part1 tM ht xM hx oM ho gM hg cc0_scratch1 cc0_scratch2 cc0_scratch3 cc0_scratch4 c v3 h5 h1)
      fun _ => SA P xs c C f 3 := by
  have hm := hw.far1.mp h1
  rw [k0_part1_eq_skeleton]
  unfold k0_part1_skel
  iterate 3 refine Run.seq (SA.step hC _ (by omega) hm (Fin.ext hw.mid) rfl rfl) fun _ => ?_
  exact Run.done (c := c) (Q := fun _ => SA P xs c C f 3)

include hC hw in
theorem part2 (w : BitVec 32) {f : Blk F} (h5 : k0_chk5 c v3) (h1 : k0_cond1 c v3 = 1#1) :
    SA P xs c C f 3 ⊢ Run c (k0_part2 tM ht xM hx oM ho gM hg cc0_scratch1 cc0_scratch2 cc0_scratch3 cc0_scratch4 c v3 h5 h1 w)
      fun _ => SA P xs c C f 6 := by
  have hm := hw.far1.mp h1
  rw [k0_part2_eq_skeleton]
  unfold k0_part2_skel
  iterate 3 refine Run.seq (SA.step hC _ (by omega) hm (Fin.ext hw.mid) rfl rfl) fun _ => ?_
  exact Run.done (c := c) (Q := fun _ => SA P xs c C f 6)

include hC hw in
theorem part3 {f : Blk F} (h5 : k0_chk5 c v3) (h1 : k0_cond1 c v3 = 1#1) :
    SA P xs c C f 6 ⊢ Run c (k0_part3 tM ht xM hx oM ho gM hg cc0_scratch1 cc0_scratch2 cc0_scratch3 cc0_scratch4 c v3 h5 h1)
      fun _ => SA P xs c C f 9 := by
  have hm := hw.far1.mp h1
  rw [k0_part3_eq_skeleton]
  unfold k0_part3_skel
  iterate 3 refine Run.seq (SA.step hC _ (by omega) hm (Fin.ext hw.mid) rfl rfl) fun _ => ?_
  exact Run.done (c := c) (Q := fun _ => SA P xs c C f 9)

include hC hw in
theorem part4 {f : Blk F} (h5 : k0_chk5 c v3) (h1 : k0_cond1 c v3 = 1#1) :
    SA P xs c C f 9 ⊢ Run c (k0_part4 tM ht xM hx oM ho gM hg cc0_scratch1 cc0_scratch2 cc0_scratch3 cc0_scratch4 c v3 h5 h1)
      fun _ => SA P xs c C f 12 := by
  have hm := hw.far1.mp h1
  rw [k0_part4_eq_skeleton]
  unfold k0_part4_skel
  iterate 3 refine Run.seq (SA.step hC _ (by omega) hm (Fin.ext hw.mid) rfl rfl) fun _ => ?_
  exact Run.done (c := c) (Q := fun _ => SA P xs c C f 12)

include hC hw in
theorem part5 {f : Blk F} (h5 : k0_chk5 c v3) (h1 : k0_cond1 c v3 = 1#1) :
    SA P xs c C f 12 ⊢ Run c (k0_part5 tM ht xM hx oM ho gM hg cc0_scratch1 cc0_scratch2 cc0_scratch3 cc0_scratch4 c v3 h5 h1)
      fun _ => SA P xs c C f 15 := by
  have hm := hw.far1.mp h1
  rw [k0_part5_eq_skeleton]
  unfold k0_part5_skel
  iterate 3 refine Run.seq (SA.step hC _ (by omega) hm (Fin.ext hw.mid) rfl rfl) fun _ => ?_
  exact Run.done (c := c) (Q := fun _ => SA P xs c C f 15)

/-! ## The loop over the bands -/

set_option maxHeartbeats 4000000 in
include hC hw hv in
theorem part19 {f : Blk F} (h6 : k0_chk6 c v4) :
    SC P xs c C f 4 ⊢ Run c (k0_part19 tM ht xM hx oM ho gM hg cc0_scratch1 cc0_scratch2 cc0_scratch3 cc0_scratch4 c v3 v4 h6 v5 v6)
      fun _ => MC P xs c C f 8 (by omega) := by
  rw [k0_part19_eq_skeleton]
  unfold k0_part19_skel
  iterate 4 (refine SC.recv hC _ (by omega) hv.recv (by rfl) (by rfl) ?_; refine MC.send hC _ (by omega) hw.far2 (fun _ => Fin.ext hw.fwd) (by rfl) (by rfl) ?_; refine TC.copy hC _ (by omega) hv.stay2 ?_)
  refine SC.recv hC _ (by omega) hv.recv (by rfl) (by rfl) ?_
  exact Run.done (c := c) (Q := fun _ => MC P xs c C f 8 (by omega))

set_option maxHeartbeats 4000000 in
include hC hw hv in
theorem part20 {f : Blk F} (h6 : k0_chk6 c v4) :
    MC P xs c C f 8 (by omega) ⊢ Run c (k0_part20 tM ht xM hx oM ho gM hg cc0_scratch1 cc0_scratch2 cc0_scratch3 cc0_scratch4 c v3 v4 h6 v5 v6)
      fun _ => TC P xs c C f 12 (by omega) := by
  rw [k0_part20_eq_skeleton]
  unfold k0_part20_skel
  refine MC.send hC _ (by omega) hw.far2 (fun _ => Fin.ext hw.fwd) (by rfl) (by rfl) ?_
  refine TC.copy hC _ (by omega) hv.stay2 ?_
  iterate 3 (refine SC.recv hC _ (by omega) hv.recv (by rfl) (by rfl) ?_; refine MC.send hC _ (by omega) hw.far2 (fun _ => Fin.ext hw.fwd) (by rfl) (by rfl) ?_; refine TC.copy hC _ (by omega) hv.stay2 ?_)
  refine SC.recv hC _ (by omega) hv.recv (by rfl) (by rfl) ?_
  refine MC.send hC _ (by omega) hw.far2 (fun _ => Fin.ext hw.fwd) (by rfl) (by rfl) ?_
  exact Run.done (c := c) (Q := fun _ => TC P xs c C f 12 (by omega))

/-! ## The waits at the end -/

include hC in
theorem part6 (hm : P.mid c ≠ c) :
    SD P xs c C 0 ⊢ Run c (k0_part6 tM ht xM hx oM ho gM hg cc0_scratch1 cc0_scratch2 cc0_scratch3 cc0_scratch4)
      fun _ => SD P xs c C 4 := by
  rw [k0_part6_eq_skeleton]
  unfold k0_part6_skel
  iterate 4 refine Run.seq (SD.step hC _ (by omega) hm rfl rfl) fun _ => ?_
  exact Run.done (c := c) (Q := fun _ => SD P xs c C 4)

include hC in
theorem part7 (hm : P.mid c ≠ c) :
    SD P xs c C 4 ⊢ Run c (k0_part7 tM ht xM hx oM ho gM hg cc0_scratch1 cc0_scratch2 cc0_scratch3 cc0_scratch4)
      fun _ => SD P xs c C 8 := by
  rw [k0_part7_eq_skeleton]
  unfold k0_part7_skel
  iterate 4 refine Run.seq (SD.step hC _ (by omega) hm rfl rfl) fun _ => ?_
  exact Run.done (c := c) (Q := fun _ => SD P xs c C 8)

include hC in
theorem part8 (hm : P.mid c ≠ c) :
    SD P xs c C 8 ⊢ Run c (k0_part8 tM ht xM hx oM ho gM hg cc0_scratch1 cc0_scratch2 cc0_scratch3 cc0_scratch4)
      fun _ => SD P xs c C 12 := by
  rw [k0_part8_eq_skeleton]
  unfold k0_part8_skel
  iterate 4 refine Run.seq (SD.step hC _ (by omega) hm rfl rfl) fun _ => ?_
  exact Run.done (c := c) (Q := fun _ => SD P xs c C 12)

include hC in
theorem part9 (hm : P.fwd c ≠ c) :
    SE P xs c C 0 ⊢ Run c (k0_part9 tM ht xM hx oM ho gM hg cc0_scratch1 cc0_scratch2 cc0_scratch3 cc0_scratch4 v4)
      fun _ => ME P xs c C 1 (by omega) := by
  rw [k0_part9_eq_skeleton]
  unfold k0_part9_skel
  refine Run.seq (SE.step hC _ (by omega) hm rfl rfl) fun _ => ?_
  refine Run.seq (ME.step hC _ (by omega) hm rfl rfl) fun _ => ?_
  refine Run.seq (SE.step hC _ (by omega) hm rfl rfl) fun _ => ?_
  exact Run.done (c := c) (Q := fun _ => ME P xs c C 1 (by omega))

include hC in
theorem part10 (hm : P.fwd c ≠ c) :
    ME P xs c C 1 (by omega) ⊢ Run c (k0_part10 tM ht xM hx oM ho gM hg cc0_scratch1 cc0_scratch2 cc0_scratch3 cc0_scratch4 v4)
      fun _ => ME P xs c C 3 (by omega) := by
  rw [k0_part10_eq_skeleton]
  unfold k0_part10_skel
  iterate 2 (refine Run.seq (ME.step hC _ (by omega) hm rfl rfl) fun _ => ?_; refine Run.seq (SE.step hC _ (by omega) hm rfl rfl) fun _ => ?_)
  exact Run.done (c := c) (Q := fun _ => ME P xs c C 3 (by omega))

include hC in
theorem part11 (hm : P.fwd c ≠ c) :
    ME P xs c C 3 (by omega) ⊢ Run c (k0_part11 tM ht xM hx oM ho gM hg cc0_scratch1 cc0_scratch2 cc0_scratch3 cc0_scratch4 v4)
      fun _ => ME P xs c C 5 (by omega) := by
  rw [k0_part11_eq_skeleton]
  unfold k0_part11_skel
  iterate 2 (refine Run.seq (ME.step hC _ (by omega) hm rfl rfl) fun _ => ?_; refine Run.seq (SE.step hC _ (by omega) hm rfl rfl) fun _ => ?_)
  exact Run.done (c := c) (Q := fun _ => ME P xs c C 5 (by omega))

include hC in
theorem part12 (hm : P.fwd c ≠ c) :
    ME P xs c C 5 (by omega) ⊢ Run c (k0_part12 tM ht xM hx oM ho gM hg cc0_scratch1 cc0_scratch2 cc0_scratch3 cc0_scratch4 v4)
      fun _ => ME P xs c C 7 (by omega) := by
  rw [k0_part12_eq_skeleton]
  unfold k0_part12_skel
  iterate 2 (refine Run.seq (ME.step hC _ (by omega) hm rfl rfl) fun _ => ?_; refine Run.seq (SE.step hC _ (by omega) hm rfl rfl) fun _ => ?_)
  exact Run.done (c := c) (Q := fun _ => ME P xs c C 7 (by omega))

include hC in
theorem part13 (hm : P.fwd c ≠ c) :
    ME P xs c C 7 (by omega) ⊢ Run c (k0_part13 tM ht xM hx oM ho gM hg cc0_scratch1 cc0_scratch2 cc0_scratch3 cc0_scratch4 v4)
      fun _ => ME P xs c C 9 (by omega) := by
  rw [k0_part13_eq_skeleton]
  unfold k0_part13_skel
  iterate 2 (refine Run.seq (ME.step hC _ (by omega) hm rfl rfl) fun _ => ?_; refine Run.seq (SE.step hC _ (by omega) hm rfl rfl) fun _ => ?_)
  exact Run.done (c := c) (Q := fun _ => ME P xs c C 9 (by omega))

include hC in
theorem part14 (hm : P.fwd c ≠ c) :
    ME P xs c C 9 (by omega) ⊢ Run c (k0_part14 tM ht xM hx oM ho gM hg cc0_scratch1 cc0_scratch2 cc0_scratch3 cc0_scratch4 v4)
      fun _ => ME P xs c C 11 (by omega) := by
  rw [k0_part14_eq_skeleton]
  unfold k0_part14_skel
  iterate 2 (refine Run.seq (ME.step hC _ (by omega) hm rfl rfl) fun _ => ?_; refine Run.seq (SE.step hC _ (by omega) hm rfl rfl) fun _ => ?_)
  exact Run.done (c := c) (Q := fun _ => ME P xs c C 11 (by omega))

include hC in
theorem part15 (w w' : BitVec 32) (hm : P.fwd c ≠ c) :
    ME P xs c C 11 (by omega) ⊢ Run c (k0_part15 tM ht xM hx oM ho gM hg cc0_scratch1 cc0_scratch2 cc0_scratch3 cc0_scratch4 v4 w w')
      fun _ => ME P xs c C 13 (by omega) := by
  rw [k0_part15_eq_skeleton]
  unfold k0_part15_skel
  iterate 2 (refine Run.seq (ME.step hC _ (by omega) hm rfl rfl) fun _ => ?_; refine Run.seq (SE.step hC _ (by omega) hm rfl rfl) fun _ => ?_)
  exact Run.done (c := c) (Q := fun _ => ME P xs c C 13 (by omega))

include hC in
theorem part16 (w : BitVec 32) (hm : P.fwd c ≠ c) :
    ME P xs c C 13 (by omega) ⊢ Run c (k0_part16 tM ht xM hx oM ho gM hg cc0_scratch1 cc0_scratch2 cc0_scratch3 cc0_scratch4 v4 w)
      fun _ => ME P xs c C 15 (by omega) := by
  rw [k0_part16_eq_skeleton]
  unfold k0_part16_skel
  iterate 2 (refine Run.seq (ME.step hC _ (by omega) hm rfl rfl) fun _ => ?_; refine Run.seq (SE.step hC _ (by omega) hm rfl rfl) fun _ => ?_)
  exact Run.done (c := c) (Q := fun _ => ME P xs c C 15 (by omega))

end Cert.Move

end
-- ==== Proof.Entry.lean ====
/- The entry: the parameters are read, the four entry signals go out and come in, and the first leg's sends start. -/
module

public import proofs.«01_k».proof.Proof.Parts

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parameters -/

/-- A device's number as a word. -/
def word (d : Dev nD) : BitVec 32 := BitVec.ofNat 32 d.val

/-- Device `c`'s parameters: where its block goes first, where it sends on, and who sends to it on each leg. -/
def params (P : Plan) (c : Dev nD) : S4.Idx → Elt F .i32 := fun i => word (P.dst ⟨(i 0).val, (i 0).isLt⟩ c)

theorem dev_word (d : Dev nD) : k0_dev1 (word d) = d.val := by
  revert d; decide

theorem place_word (c : Dev nD) : Scalar.remsi (Scalar.divsi (Dev.word c) 1#32) 32#32 = word c := by
  revert c; decide

theorem word_inj {c d : Dev nD} (h : word c = word d) : c = d := by
  have := congrArg k0_dev1 h
  rw [dev_word, dev_word] at this
  exact Fin.ext this

theorem ne_word (a b : BitVec 32) : Scalar.cmpi .ne a b = 1#1 ↔ a ≠ b := by
  show BitVec.ofBool (a != b) = 1#1 ↔ a ≠ b
  by_cases h : a = b
  · simp [h]
  · rw [show (a != b) = true from bne_iff_ne.mpr h]
    exact ⟨fun _ => h, fun _ => rfl⟩

theorem far_word (c d : Dev nD) : Scalar.cmpi .ne (word d) (Scalar.remsi (Scalar.divsi (Dev.word c) 1#32) 32#32) = 1#1 ↔ d ≠ c := by
  rw [place_word, ne_word]
  exact ⟨fun h e => h (by rw [e]), fun h e => h (word_inj e)⟩

theorem cond_word (c d : Dev nD) : k0_cond1 c (word d) = 1#1 ↔ d ≠ c := by
  unfold k0_cond1
  rw [flag_up]
  exact far_word c d

variable {P : Plan} {c : Dev nD}

theorem words (P : Plan) (c : Dev nD) : Words P c (word (P.mid c)) (word (P.fwd c)) where
  mid := dev_word _
  fwd := dev_word _
  far1 := cond_word c _
  far2 := cond_word c _

theorem chk_first (c d : Dev nD) : k0_chk5 c (word d) := by
  have h : k0_dev1 (word d) < nD := by rw [dev_word]; exact d.isLt
  unfold k0_chk5
  iterate 15 refine ⟨fun _ => h, ?_⟩
  exact fun _ => h
theorem chk_second (c d : Dev nD) : k0_chk6 c (word d) := by
  have h : k0_dev1 (word d) < nD := by rw [dev_word]; exact d.isLt
  unfold k0_chk6
  iterate 15 refine ⟨fun _ => h, ?_⟩
  exact fun _ => h

/-! ## Steps -/

/-- A check that holds is passed. -/
theorem Run.check {α : Type} {p : Prop} {dp : Decidable p} (hp : p) {K : PLift p → Body F α} {A : sProp 𝕄} {Q : α → sProp 𝕄}
    (h : A ⊢ Run c (K ⟨hp⟩) Q) : A ⊢ Run c (Prog.lift (.assume p dp) >>= K) Q := by
  unfold Run Prog.lift
  rw [Prog.bind_op, wp_assume_of 𝒱₀ (c : Thread nD τ) none Set.univ hp]
  simpa only [Prog.bind_ret] using h

/-- The device's own number is read. -/
theorem Run.device {α : Type} {K : Dev nD → Body F α} {A : sProp 𝕄} {Q : α → sProp 𝕄}
    (h : A ⊢ Run c (K c) Q) : A ⊢ Run c (Prog.lift .deviceId >>= K) Q := by
  unfold Run Prog.lift
  rw [Prog.bind_op, wp_deviceId]
  simpa only [Prog.bind_ret] using h

/-- The staged parameters, whole. -/
abbrev tAll (c : Dev nD) (ts : S4.Idx → Elt F .i32) : sProp 𝕄 := ((c : Thread nD τ).loc cc0_stg0_0) ↦{fullShare} ts

/-- One parameter is read. -/
theorem Run.read {α : Type} (k : Fin 4) {hb h1 hp} {K : Elt F .i32 → Body F α} {R : sProp 𝕄} {Q : α → sProp 𝕄}
    (h : iprop(tAll c (params P c) ∗ R) ⊢ Run c (K (word (P.dst k c))) Q) :
    iprop(tAll c (params P c) ∗ R) ⊢ Run c (smemLoad tM (Rect.unit (s := S4) ![k.val] S1.size hb) h1 hp >>= K) Q := by
  unfold Run smemLoad smemLoadElt
  simp only [Prog.bind_op, Prog.bind_ret]
  iintro ⟨Ht, HR⟩
  iapply (wp_load_rect 𝒱₀ (c : Thread nD τ) none Set.univ (m := tM) (r := Rect.unit (s := S4) ![k.val] S1.size hb) (Finset.subset_univ _)) $$ Ht; iintro Ht
  iapply h
  isplitl [Ht] <;> iassumption

/-- Either branch. -/
theorem Run.either {α : Type} {b : Prop} [Decidable b] {X : b → Body F α} {Y : ¬ b → Body F α} {A : sProp 𝕄} {Q : α → sProp 𝕄}
    (h1 : ∀ h, A ⊢ Run c (X h) Q) (h2 : ∀ h, A ⊢ Run c (Y h) Q) : A ⊢ Run c (if h : b then X h else Y h) Q := by
  by_cases h : b
  · rw [dif_pos h]; exact h1 h
  · rw [dif_neg h]; exact h2 h

/-- A piece known to give `a`, then the rest of the program at `a`. -/
theorem Run.known {α β ζ : Type} {p : Body F α} {q : α → Body F β} {A : sProp 𝕄} {B : ζ → sProp 𝕄} {a : α} {Q : β → sProp 𝕄}
    (h1 : A ⊢ Run c p fun r => iprop(⌜r = a⌝ ∗ ∃ z, B z)) (h2 : ∀ z, B z ⊢ Run c (q a) Q) : A ⊢ Run c (p >>= q) Q := by
  unfold Run
  rw [wp_bind]
  refine h1.trans (wp_mono _ _ _ fun x => ?_)
  iintro ⟨%e, %z, H⟩
  subst e
  iapply (h2 z); iexact H

/-! ## The entry signals -/

variable (P : Plan) (xs : Dev nD → Blk F) (κ : GSem nD τ sig → ℕ) (c : Dev nD)

/-- The entry signals from the `k`-th on. -/
def sg (k : ℕ) : Finset (Fin 4) := Finset.univ.filter fun i => k ≤ i.val
theorem sg_zero : sg 0 = Finset.univ := by decide
theorem sg_end : sg 4 = ∅ := by decide
theorem sg_step (k : ℕ) (h : k < 4) : sg k = insert ⟨k, h⟩ (sg (k + 1)) := by
  ext j; simp only [sg, Finset.mem_filter, Finset.mem_univ, true_and, Finset.mem_insert, Fin.ext_iff]; omega
theorem sg_not (k : ℕ) (h : k < 4) : (⟨k, h⟩ : Fin 4) ∉ sg (k + 1) := by
  simp only [sg, Finset.mem_filter, Finset.mem_univ, true_and]; omega

theorem sg_cons (k : ℕ) (h : k < 4) {Φ : Fin 4 → sProp 𝕄} : bigSep (sg k) Φ = iprop(Φ ⟨k, h⟩ ∗ bigSep (sg (k + 1)) Φ) := by
  rw [sg_step k h]; exact bigSep_insert (sg_not k h)

/-- What the `i`-th entry signal uses up. -/
def sigPay (i : Fin 4) : sProp 𝕄 := iprop(dutyTok ER (barCell (P.dst i c)) 0 i ∗ barPay P (P.dst i c) i)

/-- `k` signals are out. -/
def Sg (Z : sProp 𝕄) (k : ℕ) : sProp 𝕄 :=
  iprop(tAll c (params P c) ∗ (records P xs κ ∗ (owing c (O2 P c 0 + O1 P c 0 + OB P c k) ∗ (bigSep (sg k) (sigPay P c) ∗ Z))))

variable {P xs κ c}

theorem Sg.read {Z : sProp 𝕄} {k : ℕ} {α : Type} (i : Fin 4) {hb h1 hp} {K : Elt F .i32 → Body F α} {Q : α → sProp 𝕄}
    (h : Sg P xs κ c Z k ⊢ Run c (K (word (P.dst i c))) Q) :
    Sg P xs κ c Z k ⊢ Run c (smemLoad tM (Rect.unit (s := S4) ![i.val] S1.size hb) h1 hp >>= K) Q := Run.read i h

theorem Sg.signal {Z : sProp 𝕄} (k : ℕ) (hk : k < 4) {α : Type} {dv : Dev nD} (hdv : dv = P.dst ⟨k, hk⟩ c) {s : Sem sig} (hs : s = barrier0)
    {K : PUnit → Body F α} {Q : α → sProp 𝕄} (h : Sg P xs κ c Z (k + 1) ⊢ Run c (K ⟨⟩) Q) :
    Sg P xs κ c Z k ⊢ Run c (semSignalWord dv s 1#32 >>= K) Q := by
  subst hdv hs
  refine chain ?_ (Run.seq (B := Sg P xs κ c Z (k + 1)) (BI.Entails.refl _) fun _ => h)
  unfold Sg Run semSignalWord
  rw [sg_cons k hk, OB_step P c k hk, ← add_assoc]
  iintro ⟨Ht, #HR, ⟨%W, HO⟩, Hp, HZ⟩
  unfold sigPay
  icases Hp with ⟨⟨Htok, Hpay⟩, Hrest⟩
  iapply (Rounds.wp_signal 𝒱₀ ER (rd P xs) (c : Thread nD τ) none (dst := (P.dst ⟨k, hk⟩ c : Thread nD τ)) (sem := barrier0) (r := 0) (d := ⟨k, hk⟩)
      (κ := κ (barCell (P.dst ⟨k, hk⟩ c)))
      (by rw [duties_bar]; exact Finset.mem_univ _) (amount_bar P xs _ _) () (O2 P c 0 + O1 P c 0 + OB P c (k + 1)) rfl) $$ [HO Htok Hpay]
  · isplitr; · iapply (inv_at P xs κ (bar_mem _)); iexact HR
    isplitl [HO]; · iexact HO
    isplitl [Htok]; · iexact Htok
    isplitl [Hpay]; · rw [payload_bar]; iexact Hpay
    iapply (bar_reached P xs κ _); iexact HR
  iintro HO
  rw [wp_ret]
  imodintro
  isplitl [Ht]; · iexact Ht
  isplitr; · iexact HR
  isplitl [HO]; · iexists _; iexact HO
  isplitl [Hrest]; · iexact Hrest
  iexact HZ

theorem Sg.wait {Z : sProp 𝕄} {α : Type} {s : Sem sig} (hs : s = barrier0) {K : PUnit → Body F α} {Q : α → sProp 𝕄}
    (h : iprop(tAll c (params P c) ∗ (records P xs κ ∗ (owing c (O2 P c 0 + O1 P c 0) ∗ (levAts L lv ∗ atPos ER (barCell c) 1 ∅ 0
        ∗ (barPay P c 0 ∗ barPay P c 1 ∗ barPay P c 2 ∗ barPay P c 3) ∗ Z)))) ⊢ Run c (K ⟨⟩) Q) :
    Sg P xs κ c iprop(levAts L lv ∗ cred (tallyAt (barCell c) () 4) ∗ atPos ER (barCell c) 0 ∅ 0 ∗ Z) 4 ⊢ Run c (semWaitWord s 4#32 >>= K) Q := by
  subst hs
  refine chain ?_ (Run.seq (BI.Entails.refl _) fun _ => h)
  unfold Sg Run semWaitWord
  rw [OB_end, add_zero]
  iintro ⟨Ht, #HR, ⟨%W, HO⟩, -, #Hlev, Hc, Hat, HZ⟩
  iapply (Rounds.wp_wait_rest_token 𝒱₀ ER (rd P xs) (c : Thread nD τ) none (κ := κ (barCell c))
      (wpE_semWait_eq 𝒱₀ (c : Thread nD τ) none Set.univ) (Set.mem_univ _) () (O := O2 P c 0 + O1 P c 0) (W := W) (R := 0) (m := 0) (T := ∅)
      ((Nat.zero_add 4).trans (expect_bar P xs c).symm)) $$ [Hc HO Hat]
  · isplitr; · iapply (inv_at P xs κ (bar_mem c)); iexact HR
    isplitl [Hc]; · iexact Hc
    isplitl [HO]; · iexact HO
    isplitr; · iapply (mayWait_bar P c); iexact Hlev
    iexact Hat
  iintro ⟨HO, Hat, -, Hpay⟩
  ihave Hp := (Entails.of_eq (rest_bar P xs c)) $$ Hpay
  rw [wp_ret]
  imodintro
  isplitl [Ht]; · iexact Ht
  isplitr; · iexact HR
  isplitl [HO]; · iexists _; iexact HO
  isplitr; · iexact Hlev
  isplitl [Hat]; · iexact Hat
  isplitl [Hp]; · iexact Hp
  iexact HZ

/-! ## Between the phases -/

/-- Two things kept per band may be regrouped band by band. -/
theorem regroup {Φ Ψ Φ' Ψ' : Fin 16 → sProp 𝕄} (h : ∀ j ∈ (Finset.univ : Finset (Fin 16)), iprop(Φ j ∗ Ψ j) ⊢ iprop(Φ' j ∗ Ψ' j)) :
    iprop(bigSep Finset.univ Φ ∗ bigSep Finset.univ Ψ) ⊢ iprop(bigSep Finset.univ Φ' ∗ bigSep Finset.univ Ψ') := by
  rw [← bigSep_sep', ← bigSep_sep']
  exact bigSep_mono h

variable (P xs κ c)

/-- Between two loops: the context, the parameters, and per band `ρ` to keep and `Φ` for the loop at hand. -/
def St (ρ : Fin 16 → sProp 𝕄) (O : CellTallies nD τ sig Unit) (Φ : Fin 16 → sProp 𝕄) : sProp 𝕄 :=
  iprop((Ctx P xs κ c ∗ ((tAll c (params P c) ∗ atPos ER (barCell c) 1 ∅ 0) ∗ bigSep Finset.univ ρ)) ∗ (owing c O ∗ bigSep Finset.univ Φ))

/-- What a loop keeps beside it. -/
abbrev Side (ρ : Fin 16 → sProp 𝕄) : sProp 𝕄 :=
  iprop(Ctx P xs κ c ∗ ((tAll c (params P c) ∗ atPos ER (barCell c) 1 ∅ 0) ∗ bigSep Finset.univ ρ))

theorem side_has (ρ : Fin 16 → sProp 𝕄) : Has P xs κ c (Side P xs κ c ρ) := has_frame P xs κ c _

variable {P xs κ c}

theorem St.shift {ρ ρ' Φ Ψ : Fin 16 → sProp 𝕄} {O : CellTallies nD τ sig Unit} (h : ∀ j, iprop(ρ j ∗ Φ j) ⊢ iprop(ρ' j ∗ Ψ j)) :
    St P xs κ c ρ O Φ ⊢ St P xs κ c ρ' O Ψ := by
  unfold St
  iintro ⟨⟨HC, HR, Hρ⟩, HO, HΦ⟩
  ihave H := (regroup (Φ := ρ) (Ψ := Φ) (Φ' := ρ') (Ψ' := Ψ) fun j _ => h j) $$ [Hρ HΦ]
  · isplitl [Hρ] <;> iassumption
  icases H with ⟨Hρ, HΦ⟩
  isplitl [HC HR Hρ]
  · isplitl [HC]; · iexact HC
    isplitl [HR] <;> iassumption
  isplitl [HO] <;> iassumption

variable (P xs c)

/-- What each band has from launch: its four positions, its four tokens, and its two receive credits. -/
def posB (j : Fin 16) : sProp 𝕄 :=
  iprop(atPos ER (kCell 0 j c) 0 ∅ 0 ∗ atPos ER (kCell 1 j c) 0 ∅ 0 ∗ atPos ER (kCell 2 j c) 0 ∅ 0 ∗ atPos ER (kCell 3 j c) 0 ∅ 0)
def tokB (j : Fin 16) : sProp 𝕄 :=
  iprop(dutyTok ER (kCell 0 j c) 0 0 ∗ dutyTok ER (kCell 1 j (P.mid c)) 0 0 ∗ dutyTok ER (kCell 2 j c) 0 0 ∗ dutyTok ER (kCell 3 j (P.fwd c)) 0 0)
def credB (j : Fin 16) : sProp 𝕄 :=
  iprop(cred (tallyAt (kCell 1 j c) () (n1 P c)) ∗ cred (tallyAt (kCell 3 j c) () (n2 P c)))
def entB (j : Fin 16) : sProp 𝕄 := iprop(posB c j ∗ tokB P c j ∗ credB P c j)

/-- What the first leg's sends leave aside. -/
def keep1 (f : Blk F) (j : Fin 16) : sProp 𝕄 := iprop(posB c j ∗ goC P c f j ∗ credB P c j)

/-- A band after the first leg's sends: sent where it moves, untouched where it stays. -/
def sentA (f : Blk F) (j : Fin 16) : sProp 𝕄 := if P.mid c = c then preA P xs c f j else postA c j

/-- Two unknown contents. -/
abbrev After17 (κ : GSem nD τ sig → ℕ) (z : Blk F × Blk F) : sProp 𝕄 := St P xs κ c (keep1 P c z.2) (O2 P c 0) (sentA P xs c z.1)

/-- What the body starts from. -/
def Start (κ : GSem nD τ sig → ℕ) : sProp 𝕄 :=
  Sg P xs κ c iprop(levAts L lv ∗ cred (tallyAt (barCell c) () 4) ∗ atPos ER (barCell c) 0 ∅ 0
    ∗ (ownOpen c ∗ xAll c (xs c) ∗ bigSep Finset.univ (entB P c))) 0

variable {P xs c}

/-- The blocks handed over, cut into bands, with the per-band tokens. -/
theorem cut_up (f f' : Blk F) :
    iprop((xAll c (xs c) ∗ gAll (P.mid c) f) ∗ (oAll (P.fwd c) f' ∗ bigSep Finset.univ (entB P c)))
      ⊢ iprop(bigSep Finset.univ (preA P xs c f) ∗ bigSep Finset.univ (keep1 P c f')) := by
  rw [xAll_bands, gAll_bands, oAll_bands, ← bigSep_sep', ← bigSep_sep']
  refine regroup fun j _ => ?_
  unfold preA keep1 entB tokB goC
  iintro ⟨⟨Hx, Hg⟩, Ho, Hp, ⟨Ht0, Ht1, Ht2, Ht3⟩, Hc⟩
  isplitl [Hx Hg Ht0 Ht1]
  · isplitl [Hx]; · iexact Hx
    isplitl [Hg]; · iexact Hg
    isplitl [Ht0] <;> iassumption
  isplitl [Hp]; · iexact Hp
  isplitr [Hc]
  · isplitl [Ho]; · iexact Ho
    isplitl [Ht2] <;> iassumption
  iexact Hc

/-- After the handshake, everything is in hand for the first leg. -/
theorem handed {α : Type} {p : Body F α} {Q : α → sProp 𝕄}
    (h : ∀ z : Blk F × Blk F, St P xs κ c (keep1 P c z.2) (O2 P c 0 + O1 P c 0) (preA P xs c z.1) ⊢ Run c p Q) :
    iprop(tAll c (params P c) ∗ (records P xs κ ∗ (owing c (O2 P c 0 + O1 P c 0) ∗ (levAts L lv ∗ atPos ER (barCell c) 1 ∅ 0
        ∗ (barPay P c 0 ∗ barPay P c 1 ∗ barPay P c 2 ∗ barPay P c 3) ∗ (ownOpen c ∗ xAll c (xs c) ∗ bigSep Finset.univ (entB P c))))))
      ⊢ Run c p Q := by
  rw [show barPay P c 2 = iprop((∃ f, gAll (P.mid c) f) ∗ bigSep Finset.univ fun j => (reached ER (kCell 1 j (P.mid c)) 0 : sProp 𝕄)) from rfl,
    show barPay P c 3 = iprop((∃ f, oAll (P.fwd c) f) ∗ bigSep Finset.univ fun j => (reached ER (kCell 3 j (P.fwd c)) 0 : sProp 𝕄)) from rfl]
  iintro ⟨Ht, #HR, HO, #Hlev, Hat, ⟨-, -, ⟨⟨%f, Hg⟩, #H1⟩, ⟨⟨%f', Ho⟩, #H3⟩⟩, #Hown, Hx, Hent⟩
  ihave H := (cut_up f f') $$ [Hx Hg Ho Hent]
  · isplitl [Hx Hg]
    · isplitl [Hx] <;> iassumption
    isplitl [Ho] <;> iassumption
  icases H with ⟨HA, HK⟩
  iapply (h (f, f'))
  unfold St Ctx peerOpen
  isplitr [HO HA]
  · isplitr
    · isplitr; · iexact HR
      isplitr; · iexact Hlev
      isplitr; · iexact Hown
      isplitr; · iexact H1
      iexact H3
    isplitl [Ht Hat]
    · isplitl [Ht] <;> iassumption
    iexact HK
  isplitl [HO] <;> iassumption

variable (ht : (tM).IsWhole) (hx : (xM).IsWhole) (ho : (oM).IsWhole) (hg : (gM).IsWhole)

/-- The flags as the body computes them from its first two parameters. -/
abbrev flag1 (P : Plan) (c : Dev nD) : BitVec 1 := Scalar.cmpi .ne (word (P.mid c)) (Scalar.remsi (Scalar.divsi (Dev.word c) 1#32) 32#32)
abbrev flag2 (P : Plan) (c : Dev nD) : BitVec 1 := Scalar.cmpi .ne (word (P.fwd c)) (Scalar.remsi (Scalar.divsi (Dev.word c) 1#32) 32#32)

theorem flags (P : Plan) (c : Dev nD) : Flags P c (flag1 P c) (flag2 P c) where
  far1 := far_word c _
  far2 := far_word c _

/-- What the entry gives: the device, its first two parameters, and the flags; and the first leg is on its way. -/
abbrev Gives (P : Plan) (xs : Dev nD → Blk F) (c : Dev nD) (κ : GSem nD τ sig → ℕ)
    (r : Σ' (d0 : Dev nD) (v3 : Elt F .i32) (v4 : Elt F .i32) (_ : k0_chk6 d0 v4) (_ : BitVec 1) (_ : BitVec 1), BitVec 1) : sProp 𝕄 :=
  iprop(⌜r = ⟨c, word (P.mid c), word (P.fwd c), chk_second c _, flag1 P c, flag2 P c, Scalar.xori (flag1 P c) 1#1⟩⌝ ∗ ∃ z, After17 P xs c κ z)

set_option maxHeartbeats 4000000 in
/-- The entry, up to the first leg's last send. -/
theorem part17 : Start P xs c κ ⊢ Run c (k0_part17 tM ht xM hx oM ho gM hg cc0_scratch1 cc0_scratch2 cc0_scratch3 cc0_scratch4) (Gives P xs c κ) := by
  rw [k0_part17_eq_skeleton]
  unfold k0_part17_skel Start
  refine Run.device ?_
  refine Sg.read 0 ?_
  refine Run.check (chk_first c _) ?_
  refine Sg.read 1 ?_
  refine Run.check (chk_second c _) ?_
  refine Sg.read 0 ?_
  refine Run.check (by show k0_dev1 _ < nD; rw [dev_word]; exact Fin.isLt _) ?_
  refine Sg.signal 0 (by omega) (Fin.ext (dev_word _)) (by rfl) ?_
  refine Sg.read 1 ?_
  refine Run.check (by show k0_dev1 _ < nD; rw [dev_word]; exact Fin.isLt _) ?_
  refine Sg.signal 1 (by omega) (Fin.ext (dev_word _)) (by rfl) ?_
  refine Sg.read 2 ?_
  refine Run.check (by show k0_dev1 _ < nD; rw [dev_word]; exact Fin.isLt _) ?_
  refine Sg.signal 2 (by omega) (Fin.ext (dev_word _)) (by rfl) ?_
  refine Sg.read 3 ?_
  refine Run.check (by show k0_dev1 _ < nD; rw [dev_word]; exact Fin.isLt _) ?_
  refine Sg.signal 3 (by omega) (Fin.ext (dev_word _)) (by rfl) ?_
  refine Sg.wait (by rfl) (handed fun z => ?_)
  have hw := words P c
  have hC := side_has P xs κ c (keep1 P c z.2)
  have fin : After17 P xs c κ z ⊢ Gives P xs c κ ⟨c, word (P.mid c), word (P.fwd c), chk_second c _, flag1 P c, flag2 P c, Scalar.xori (flag1 P c) 1#1⟩ := by
    iintro H
    isplitr; · ipureintro; rfl
    iexists z; iexact H
  refine Run.either (fun h1 => ?_) fun h1 => ?_
  · refine chain (Loop.start (post := postA c)) ?_
    refine Run.seq (part1 hC hw ht hx ho hg (chk_first c _) h1) fun w => ?_
    refine Run.seq (part2 hC hw ht hx ho hg w (chk_first c _) h1) fun _ => ?_
    refine Run.seq (part3 hC hw ht hx ho hg (chk_first c _) h1) fun _ => ?_
    refine Run.seq (part4 hC hw ht hx ho hg (chk_first c _) h1) fun _ => ?_
    refine Run.seq (part5 hC hw ht hx ho hg (chk_first c _) h1) fun _ => ?_
    refine Run.seq (SA.step hC 15 (by omega) (hw.far1.mp h1) (Fin.ext hw.mid) (by rfl) (by rfl)) fun _ => ?_
    refine chain Loop.finish (chain ?_ (chain fin (Run.done (c := c) (Q := Gives P xs c κ))))
    rw [O1_end, add_zero]
    refine Entails.of_eq ?_
    unfold After17 St
    have e : sentA P xs c z.1 = postA c := by funext j; unfold sentA; rw [if_neg (hw.far1.mp h1)]
    rw [e]
  · refine chain ?_ (chain fin (Run.done (c := c) (Q := Gives P xs c κ)))
    have hm : P.mid c = c := by by_contra h; exact h1 (hw.far1.mpr h)
    rw [O1_near P c 0 hm, add_zero]
    refine Entails.of_eq ?_
    unfold After17
    have e : sentA P xs c z.1 = preA P xs c z.1 := by funext j; unfold sentA; rw [if_pos hm]
    rw [e]

end Cert.Move

end
-- ==== Proof.Body.lean ====
/- The body from end to end: the local copy where the block stays, the loop, the waits, and what is left. -/
module

public import proofs.«01_k».proof.Proof.Entry
public import Idealize.ShloMosaic.Lib.Pipeline.Value

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The whole block, copied where it stays -/

/-- All of a block, as the program addresses it. -/
abbrev wide : Rect S1x1024x1024 :=
  Rect.unit (s := S1x1024x1024) ![0, 0, 0] S1x1024x1024.size inb_S1x1024x1024_S1x1024x1024_0_0_0

theorem wide_emb (i : S1x1024x1024.Idx) : wide.emb i = i := by
  funext a
  apply Fin.ext
  show (![0, 0, 0] : Fin 3 → ℕ) a + 1 * (i a).val = (i a).val
  fin_cases a <;> (dsimp; omega)

/-- The input block stored over the intermediate block: it holds the input. -/
theorem land_whole (f fd : Blk F) :
    ((gM.view.slice wide).write (Elt F) fd (k0_pay1 ((xM.view.slice wide).read (Elt F) f)) Finset.univ : Blk F) = f := by
  funext i
  have hi : (gM.view.slice wide).emb i = i := wide_emb i
  have h := View.write_emb_of_mem (Val := Elt F) (v := gM.view.slice wide) fd (k0_pay1 ((xM.view.slice wide).read (Elt F) f)) (Finset.mem_univ i)
  rw [hi] at h
  refine h.trans ?_
  unfold k0_pay1
  simp only [shapeCast_self]
  show f (wide.emb i) = f i
  rw [wide_emb]

variable (P : Plan) (xs : Dev nD → Blk F) (κ : GSem nD τ sig → ℕ) (c : Dev nD)

/-- A band once its first leg is under way or, where it stays, done. -/
def afterA (j : Fin 16) : sProp 𝕄 :=
  if P.mid c = c then iprop(xBand c j (xs c) ∗ gBand c j (P.held xs c)) else postA c j

variable {P xs κ c}

theorem each {Φ Ψ : Fin 16 → sProp 𝕄} (h : ∀ j, Φ j ⊢ Ψ j) : bigSep Finset.univ Φ ⊢ bigSep Finset.univ Ψ :=
  bigSep_mono fun j _ => h j

theorem join_first (hm : P.mid c = c) (f : Blk F) :
    bigSep Finset.univ (sentA P xs c f) ⊢ iprop(xAll c (xs c) ∗ gAll c f) := by
  rw [xAll_bands, gAll_bands, ← bigSep_sep']
  refine each fun j => ?_
  unfold sentA preA
  rw [if_pos hm, hm]
  iintro ⟨Hx, Hg, -⟩
  isplitl [Hx] <;> iassumption

theorem part_first (hm : P.mid c = c) :
    iprop(xAll c (xs c) ∗ gAll c (xs c)) ⊢ bigSep Finset.univ (afterA P xs c) := by
  rw [xAll_bands, gAll_bands, ← bigSep_sep']
  refine each fun j => ?_
  unfold afterA
  have e : P.held xs c = xs c := by
    unfold Plan.held; rw [(Equiv.symm_apply_eq P.mid).mpr hm.symm]
  rw [if_pos hm, e]

/-- The local copy's place in the program: where the block stays for the first leg, it is copied here. -/
theorem copy_first {ρ : Fin 16 → sProp 𝕄} {O : CellTallies nD τ sig Unit} {f : Blk F} {v : BitVec 1} (hv : v = 1#1 ↔ P.mid c = c)
    {h1 h2 h3 h4} {α : Type} {K : Body F α} {Q : α → sProp 𝕄} (hK : St P xs κ c ρ O (afterA P xs c) ⊢ Run c K Q) :
    St P xs κ c ρ O (sentA P xs c f) ⊢ Run c (if v = 1#1 then (do
        let w : Vec F S1x1024x1024 .f32 ← Prog.lift (.load xM wide.toLoadRect h1)
        let _ : Vec F S1x1024x1024 .f32 ← Prog.lift (.load gM wide.toLoadRect h2)
        Prog.lift (.store gM wide (k0_pay1 w) Finset.univ h3 h4)
        K) else K) Q := by
  by_cases hm : P.mid c = c
  · rw [if_pos (hv.mpr hm)]
    unfold St at hK ⊢
    unfold Run at hK ⊢
    simp only [Prog.lift, Prog.bind_op, Prog.bind_ret]
    iintro ⟨HC, HO, HA⟩
    ihave H := (join_first hm f) $$ HA
    icases H with ⟨Hx, Hg⟩
    iapply (wp_load_rect 𝒱₀ (c : Thread nD τ) none Set.univ (m := xM) (r := wide) (Finset.subset_univ _)) $$ Hx; iintro Hx
    iapply (wp_load_rect 𝒱₀ (c : Thread nD τ) none Set.univ (m := gM) (r := wide) (Finset.subset_univ _)) $$ Hg; iintro Hg
    iapply (wp_store 𝒱₀ (c : Thread nD τ) none Set.univ (m := gM) (r := wide) (Mk := Finset.univ) (S := Finset.univ) (Finset.subset_univ _)) $$ Hg; iintro Hg
    iapply hK
    isplitl [HC]; · iexact HC
    isplitl [HO]; · iexact HO
    iapply (part_first (xs := xs) hm)
    isplitl [Hx]; · iexact Hx
    iapply (Entails.of_eq (congrArg (fun z : Blk F => (gAll c z : sProp 𝕄)) (land_whole (xs c) f))) $$ Hg
  · rw [if_neg fun h => hm (hv.mp h)]
    refine chain (Entails.of_eq ?_) hK
    have e : sentA P xs c f = afterA P xs c := by funext j; unfold sentA afterA; rw [if_neg hm, if_neg hm]
    rw [e]

/-! ## What is kept beside each loop -/

variable (P xs c)

/-- What the waits for the first leg's sends will use, or what they would give. -/
def restD (j : Fin 16) : sProp 𝕄 := if P.mid c = c then xBand c j (xs c) else cred (tallyAt (kCell 0 j c) () bandCredit)
/-- Likewise for the second leg. -/
def restE (j : Fin 16) : sProp 𝕄 :=
  if P.fwd c = c then iprop(gBand c j (P.held xs c) ∗ oBand c j (P.final xs c)) else cred (tallyAt (kCell 2 j c) () bandCredit)
/-- Band `j`, ready for the first leg's send wait, and for the second leg's two. -/
def toD (j : Fin 16) : sProp 𝕄 := iprop(atPos ER (kCell 0 j c) 0 ∅ 0 ∗ restD P xs c j)
def toE (j : Fin 16) : sProp 𝕄 :=
  iprop(atPos ER (kCell 2 j c) 0 ∅ 0 ∗ atPos ER (kCell 3 j c) 0 ∅ 0 ∗ cred (tallyAt (kCell 3 j c) () (n2 P c)) ∗ restE P xs c j)

def keep2 (j : Fin 16) : sProp 𝕄 :=
  iprop(toD P xs c j ∗ atPos ER (kCell 2 j c) 0 ∅ 0 ∗ atPos ER (kCell 3 j c) 0 ∅ 0 ∗ cred (tallyAt (kCell 3 j c) () (n2 P c)))
def keep3 (j : Fin 16) : sProp 𝕄 := iprop(over P c 1 j ∗ toE P xs c j)
def keep4 (j : Fin 16) : sProp 𝕄 := iprop(over P c 1 j ∗ postD P xs c j)

variable {P xs c}

theorem before_loop (f : Blk F) (j : Fin 16) : iprop(keep1 P c f j ∗ afterA P xs c j) ⊢ iprop(keep2 P xs c j ∗ preC P xs c f j) := by
  unfold keep1 keep2 posB credB preC toD afterA restD postA
  by_cases hm : P.mid c = c
  · rw [if_pos hm, if_pos hm, if_pos hm]
    iintro ⟨⟨⟨H0, H1, H2, H3⟩, Hg, -, Hc3⟩, Hx, Hgb⟩
    isplitl [H0 H2 H3 Hc3 Hx]
    · isplitl [H0 Hx]; · isplitl [H0] <;> iassumption
      isplitl [H2]; · iexact H2
      isplitl [H3] <;> iassumption
    isplitl [H1]; · iexact H1
    isplitl [Hg] <;> iassumption
  · rw [if_neg hm, if_neg hm, if_neg hm, n1_far P hm]
    iintro ⟨⟨⟨H0, H1, H2, H3⟩, Hg, Hc1, Hc3⟩, Hx⟩
    isplitl [H0 H2 H3 Hc3 Hx]
    · isplitl [H0 Hx]; · isplitl [H0] <;> iassumption
      isplitl [H2]; · iexact H2
      isplitl [H3] <;> iassumption
    isplitl [H1]; · iexact H1
    isplitl [Hg] <;> iassumption

theorem after_loop (j : Fin 16) : iprop(keep2 P xs c j ∗ postC P xs c j) ⊢ iprop(keep3 P xs c j ∗ toD P xs c j) := by
  unfold keep2 keep3 postC toE restE
  iintro ⟨⟨HD, H2, H3, Hc⟩, H1, HE⟩
  isplitr [HD]
  · isplitl [H1]; · iexact H1
    isplitl [H2]; · iexact H2
    isplitl [H3]; · iexact H3
    isplitl [Hc] <;> iassumption
  iexact HD

theorem after_D (j : Fin 16) : iprop(keep3 P xs c j ∗ postD P xs c j) ⊢ iprop(keep4 P xs c j ∗ toE P xs c j) := by
  unfold keep3 keep4
  iintro ⟨⟨H1, HE⟩, HD⟩
  isplitr [HE]
  · isplitl [H1] <;> iassumption
  iexact HE

theorem toD_near (hm : P.mid c = c) : toD P xs c = postD P xs c := by
  funext j
  have hn : ¬ P.Far (0 : Fin 4).val c := by show ¬ (P.mid c ≠ c); exact fun h => h hm
  unfold toD postD restD
  rw [if_pos hm, over_near P c hn]
theorem toD_far (hm : P.mid c ≠ c) : toD P xs c = preD c := by
  funext j
  unfold toD preD restD
  rw [if_neg hm]

theorem toE_near (hm : P.fwd c = c) (j : Fin 16) : toE P xs c j ⊢ postE P xs c j := by
  have h2 : ¬ P.Far (2 : Fin 4).val c := by show ¬ (P.fwd c ≠ c); exact fun h => h hm
  have h3 : ¬ P.Far (3 : Fin 4).val c := by show ¬ (P.fwd c ≠ c); exact fun h => h hm
  unfold toE postE restE
  rw [if_pos hm, over_near P c h2, over_near P c h3]
  iintro ⟨H2, H3, -, Hg, Ho⟩
  isplitl [H2 Hg]
  · isplitl [H2] <;> iassumption
  isplitl [H3] <;> iassumption
theorem toE_far (hm : P.fwd c ≠ c) (j : Fin 16) : toE P xs c j ⊢ preE c j := by
  unfold toE preE restE
  rw [if_neg hm, n2_far P hm]
  iintro ⟨H2, H3, Hc3, Hc2⟩
  isplitl [H2 Hc2]
  · isplitl [H2] <;> iassumption
  isplitl [H3] <;> iassumption

theorem St.mono {ρ Φ Ψ : Fin 16 → sProp 𝕄} {O : CellTallies nD τ sig Unit} (h : ∀ j, Φ j ⊢ Ψ j) :
    St P xs κ c ρ O Φ ⊢ St P xs κ c ρ O Ψ :=
  St.shift fun j => sep_mono_right (h j)

variable (ht : (tM).IsWhole) (hx : (xM).IsWhole) (ho : (oM).IsWhole) (hg : (gM).IsWhole)

/-- The side of the loop. -/
abbrev Cl (P : Plan) (xs : Dev nD → Blk F) (κ : GSem nD τ sig → ℕ) (c : Dev nD) : sProp 𝕄 := Side P xs κ c (keep2 P xs c)

set_option maxHeartbeats 4000000 in
/-- The whole block's local copy and the loop's first four bands. -/
theorem part18 {v3 v4 : Elt F .i32} {v5 v6 : BitVec 1} (hw : Words P c v3 v4) (hv : Flags P c v5 v6) (f f' : Blk F) (h6 : k0_chk6 c v4) :
    St P xs κ c (keep1 P c f') (O2 P c 0) (sentA P xs c f)
      ⊢ Run c (k0_part18 tM ht xM hx oM ho gM hg cc0_scratch1 cc0_scratch2 cc0_scratch3 cc0_scratch4 c v3 v4 h6 v5 v6 (Scalar.xori v5 1#1))
        fun _ => SC P xs c (Cl P xs κ c) f' 4 := by
  have hC := side_has P xs κ c (keep2 P xs c)
  rw [k0_part18_eq_skeleton]
  unfold k0_part18_skel
  refine copy_first hv.stay1 ?_
  refine chain (St.shift (before_loop f')) (chain (B := SC P xs c (Cl P xs κ c) f' 0) Loop.start ?_)
  iterate 4 (refine SC.recv hC _ (by omega) hv.recv (by rfl) (by rfl) ?_; refine MC.send hC _ (by omega) hw.far2 (fun _ => Fin.ext hw.fwd) (by rfl) (by rfl) ?_; refine TC.copy hC _ (by omega) hv.stay2 ?_)
  exact Run.done (c := c) (Q := fun _ => SC P xs c (Cl P xs κ c) f' 4)

/-- What the body leaves, before its cells are closed. -/
abbrev Last (P : Plan) (xs : Dev nD → Blk F) (κ : GSem nD τ sig → ℕ) (c : Dev nD) : sProp 𝕄 :=
  St P xs κ c (keep4 P xs c) 0 (postE P xs c)

/-- Either branch of a test. -/
theorem Run.test {α : Type} {v : BitVec 1} {X Y : Body F α} {A : sProp 𝕄} {Q : α → sProp 𝕄}
    (h1 : v = 1#1 → A ⊢ Run c X Q) (h2 : ¬ v = 1#1 → A ⊢ Run c Y Q) : A ⊢ Run c (if v = 1#1 then X else Y) Q := by
  by_cases h : v = 1#1
  · rw [if_pos h]; exact h1 h
  · rw [if_neg h]; exact h2 h

/-- The waits for the second leg, as the program has them. -/
def phaseE (v4 : Elt F .i32) (v6 : BitVec 1) : Body F PUnit :=
  if Scalar.cmpi .ne (Scalar.extui v6 : BitVec 32) 0#32 = 1#1 then do
    k0_part9 tM ht xM hx oM ho gM hg cc0_scratch1 cc0_scratch2 cc0_scratch3 cc0_scratch4 v4
    k0_part10 tM ht xM hx oM ho gM hg cc0_scratch1 cc0_scratch2 cc0_scratch3 cc0_scratch4 v4
    k0_part11 tM ht xM hx oM ho gM hg cc0_scratch1 cc0_scratch2 cc0_scratch3 cc0_scratch4 v4
    k0_part12 tM ht xM hx oM ho gM hg cc0_scratch1 cc0_scratch2 cc0_scratch3 cc0_scratch4 v4
    k0_part13 tM ht xM hx oM ho gM hg cc0_scratch1 cc0_scratch2 cc0_scratch3 cc0_scratch4 v4
    let ⟨a, b⟩ : Σ' (_ : BitVec 32), BitVec 32 ← k0_part14 tM ht xM hx oM ho gM hg cc0_scratch1 cc0_scratch2 cc0_scratch3 cc0_scratch4 v4
    let w : BitVec 32 ← k0_part15 tM ht xM hx oM ho gM hg cc0_scratch1 cc0_scratch2 cc0_scratch3 cc0_scratch4 v4 a b
    k0_part16 tM ht xM hx oM ho gM hg cc0_scratch1 cc0_scratch2 cc0_scratch3 cc0_scratch4 v4 w
    Prog.lift (.waitDma2 ((cc0_scratch4.slice (Rect.unit (s := S16) ![15] S1.size inb_S16_S1_15)).squeeze S_ squeezes_S1_S_).sem
      (cut gM 15) (cut oM 15) (View.wordExact_bits rfl) (View.wordExact_bits rfl))
    pure ⟨⟩
  else pure ⟨⟩

set_option maxHeartbeats 8000000 in
/-- All of it, from the handshake to the last wait. -/
theorem part21 : Start P xs c κ ⊢ Run c (k0_part21 tM ht xM hx oM ho gM hg cc0_scratch1 cc0_scratch2 cc0_scratch3 cc0_scratch4)
    fun _ => Last P xs κ c := by
  have hC := side_has P xs κ c (keep2 P xs c)
  have hC3 := side_has P xs κ c (keep3 P xs c)
  have hC4 := side_has P xs κ c (keep4 P xs c)
  have hw := words P c
  have hv := flags P c
  have hE : St P xs κ c (keep4 P xs c) 0 (toE P xs c) ⊢ Run c (phaseE ht hx ho hg (word (P.fwd c)) (flag2 P c)) fun _ => Last P xs κ c := by
    unfold phaseE
    refine Run.test (fun h => ?_) fun h => ?_
    · have hm : P.fwd c ≠ c := hv.move.mp h
      refine chain (St.mono (toE_far hm)) ?_
      refine chain (B := SE P xs c (Side P xs κ c (keep4 P xs c)) 0) Loop.start ?_
      refine Run.seq (part9 hC4 ht hx ho hg hm) fun _ => ?_
      refine Run.seq (part10 hC4 ht hx ho hg hm) fun _ => ?_
      refine Run.seq (part11 hC4 ht hx ho hg hm) fun _ => ?_
      refine Run.seq (part12 hC4 ht hx ho hg hm) fun _ => ?_
      refine Run.seq (part13 hC4 ht hx ho hg hm) fun _ => ?_
      refine Run.seq (part14 hC4 ht hx ho hg hm) fun w => ?_
      obtain ⟨w, w'⟩ := w
      refine Run.seq (part15 hC4 ht hx ho hg w w' hm) fun w => ?_
      refine Run.seq (part16 hC4 ht hx ho hg w hm) fun _ => ?_
      refine Run.seq (ME.step hC4 15 (by omega) hm (by rfl) (by rfl)) fun _ => ?_
      refine chain (B := Last P xs κ c) Loop.finish ?_
      exact Run.done (c := c) (Q := fun _ => Last P xs κ c)
    · have hm : P.fwd c = c := by by_contra hm; exact h (hv.move.mpr hm)
      refine chain (St.mono (toE_near hm)) ?_
      exact Run.done (c := c) (Q := fun _ => Last P xs κ c)
  rw [k0_part21_eq_skeleton]
  unfold k0_part21_skel
  refine Run.known (part17 ht hx ho hg) fun z => ?_
  refine Run.seq (part18 ht hx ho hg hw hv z.1 z.2 (chk_second c _)) fun _ => ?_
  refine Run.seq (part19 hC hw hv ht hx ho hg (chk_second c _)) fun _ => ?_
  refine Run.seq (part20 hC hw hv ht hx ho hg (chk_second c _)) fun _ => ?_
  refine TC.copy hC 12 (by omega) hv.stay2 ?_
  iterate 3 (refine SC.recv hC _ (by omega) hv.recv (by rfl) (by rfl) ?_; refine MC.send hC _ (by omega) hw.far2 (fun _ => Fin.ext hw.fwd) (by rfl) (by rfl) ?_; refine TC.copy hC _ (by omega) hv.stay2 ?_)
  refine chain Loop.finish ?_
  rw [O2_end]
  refine chain (St.shift (P := P) (xs := xs) (κ := κ) (c := c) (ρ := keep2 P xs c) (Φ := postC P xs c) (O := 0) after_loop) ?_
  refine Run.test (fun h => ?_) fun h => ?_
  · have hm : P.mid c ≠ c := hv.recv.mp h
    rw [toD_far hm]
    refine chain (B := SD P xs c (Side P xs κ c (keep3 P xs c)) 0) Loop.start ?_
    refine Run.seq (part6 hC3 ht hx ho hg hm) fun _ => ?_
    refine Run.seq (part7 hC3 ht hx ho hg hm) fun _ => ?_
    refine Run.seq (part8 hC3 ht hx ho hg hm) fun _ => ?_
    refine Run.seq (SD.step hC3 12 (by omega) hm (by rfl) (by rfl)) fun _ => ?_
    refine Run.seq (SD.step hC3 13 (by omega) hm (by rfl) (by rfl)) fun _ => ?_
    refine Run.seq (SD.step hC3 14 (by omega) hm (by rfl) (by rfl)) fun _ => ?_
    refine Run.seq (SD.step hC3 15 (by omega) hm (by rfl) (by rfl)) fun _ => ?_
    refine chain (B := St P xs κ c (keep3 P xs c) 0 (postD P xs c)) Loop.finish ?_
    exact chain (St.shift after_D) hE
  · have hm : P.mid c = c := by by_contra hm; exact h (hv.recv.mpr hm)
    rw [toD_near hm]
    exact chain (St.shift after_D) hE

/-- The body. -/
theorem body_run : Start P xs c κ ⊢ Run c (cc0_body tM ht xM hx oM ho gM hg cc0_scratch1 cc0_scratch2 cc0_scratch3 cc0_scratch4)
    fun _ => Last P xs κ c := by
  rw [cc0_body_eq_skeleton]
  unfold cc0_body_skel
  exact Run.seq (part21 ht hx ho hg) fun _ => Run.done (c := c) (Q := fun _ => Last P xs κ c)

end Cert.Move

end
-- ==== Proof.Close.lean ====
/- The body's end: every cell closed, its counter back at zero, and the blocks whole again. -/
module

public import proofs.«01_k».proof.Proof.Body

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Plan) (xs : Dev nD → Blk F) (κ : GSem nD τ sig → ℕ) (c : Dev nD)

/-- A copy's cell, past its round if it has one, closes. -/
theorem close_band (a : Fin 4) (j : Fin 16) :
    iprop(records P xs κ ∗ over P c a j) ⊢ (|={Set.univ}=> semVal (kCell a j c) 0 : sProp 𝕄) := by
  by_cases h : P.Far a.val c
  · rw [over_far P c h]
    iintro ⟨#HR, Hat⟩
    iapply (Rounds.cell_close ER (rd P xs) (Set.mem_univ (κ (kCell a j c))) id (duties_later P xs (kCell a j c)))
    isplitr; · iapply (inv_at P xs κ (k_mem a j c)); iexact HR
    iexact Hat
  · rw [over_near P c h]
    iintro ⟨#HR, Hat⟩
    iapply (Rounds.cell_close ER (rd P xs) (Set.mem_univ (κ (kCell a j c))) id (duties_near P xs a j c h))
    isplitr; · iapply (inv_at P xs κ (k_mem a j c)); iexact HR
    iexact Hat

theorem close_bar : iprop(records P xs κ ∗ atPos ER (barCell c) 1 ∅ 0) ⊢ (|={Set.univ}=> semVal (barCell c) 0 : sProp 𝕄) := by
  iintro ⟨#HR, Hat⟩
  iapply (Rounds.cell_close ER (rd P xs) (Set.mem_univ (κ (barCell c))) id (duties_later P xs (barCell c)))
  isplitr; · iapply (inv_at P xs κ (bar_mem c)); iexact HR
  iexact Hat

/-- What is left of band `j`: four counters at zero and the three bands. -/
def doneBand (j : Fin 16) : sProp 𝕄 :=
  iprop((semVal (kCell 0 j c) 0 ∗ semVal (kCell 1 j c) 0 ∗ semVal (kCell 2 j c) 0 ∗ semVal (kCell 3 j c) 0)
    ∗ (xBand c j (xs c) ∗ gBand c j (P.held xs c) ∗ oBand c j (P.final xs c)))

theorem close_all (j : Fin 16) :
    iprop(records P xs κ ∗ (keep4 P xs c j ∗ postE P xs c j)) ⊢ (|={Set.univ}=> doneBand P xs c j : sProp 𝕄) := by
  unfold keep4 postD postE doneBand
  iintro ⟨#HR, ⟨H1, H0, Hx⟩, ⟨H2, Hg⟩, H3, Ho⟩
  imod (close_band P xs κ c 0 j) $$ [H0] with H0
  · isplitr; · iexact HR
    iexact H0
  imod (close_band P xs κ c 1 j) $$ [H1] with H1
  · isplitr; · iexact HR
    iexact H1
  imod (close_band P xs κ c 2 j) $$ [H2] with H2
  · isplitr; · iexact HR
    iexact H2
  imod (close_band P xs κ c 3 j) $$ [H3] with H3
  · isplitr; · iexact HR
    iexact H3
  imodintro
  isplitl [H0 H1 H2 H3]
  · isplitl [H0]; · iexact H0
    isplitl [H1]; · iexact H1
    isplitl [H2] <;> iassumption
  isplitl [Hx]; · iexact Hx
  isplitl [Hg] <;> iassumption

theorem close_bands :
    iprop(records P xs κ ∗ (bigSep Finset.univ (keep4 P xs c) ∗ bigSep Finset.univ (postE P xs c)))
      ⊢ (|={Set.univ}=> bigSep Finset.univ (doneBand P xs c) : sProp 𝕄) := by
  rw [← bigSep_sep']
  exact (bigSep_with_persistent (R := records P xs κ) fun j _ => close_all P xs κ c j).trans (bigSep_fupd _ _)

/-- Device `c`'s own counters at zero. -/
abbrev zeros : sProp 𝕄 := bigSep Finset.univ fun k : Fin 4 × Fin 16 => semVal (kCell k.1 k.2 c) 0

theorem zeros_four : (zeros c : sProp 𝕄) = iprop((bigSep Finset.univ fun j => semVal (kCell 0 j c) 0) ∗ (bigSep Finset.univ fun j => semVal (kCell 1 j c) 0)
    ∗ (bigSep Finset.univ fun j => semVal (kCell 2 j c) 0) ∗ bigSep Finset.univ fun j => semVal (kCell 3 j c) 0) := by
  unfold zeros
  rw [bigSep_univ_prod, bigSep_four]

theorem done_whole : bigSep Finset.univ (doneBand P xs c)
    = iprop(zeros c ∗ (xAll c (xs c) ∗ gAll c (P.held xs c) ∗ oAll c (P.final xs c))) := by
  rw [zeros_four, xAll_bands, gAll_bands, oAll_bands]
  unfold doneBand
  simp only [bigSep_sep']

/-- The end. -/
def Finish : sProp 𝕄 :=
  iprop(tAll c (params P c) ∗ (zeros c ∗ (xAll c (xs c) ∗ gAll c (P.held xs c) ∗ oAll c (P.final xs c))) ∗ semVal (barCell c) 0 ∗ owing c 0)

theorem finish : Last P xs κ c ⊢ (|={Set.univ}=> Finish P xs c : sProp 𝕄) := by
  unfold Last St Ctx Finish
  rw [← done_whole]
  iintro ⟨⟨⟨#HR, -⟩, ⟨Ht, Hb⟩, Hk⟩, HO, HE⟩
  imod (close_bar P xs κ c) $$ [Hb] with Hb
  · isplitr; · iexact HR
    iexact Hb
  imod (close_bands P xs κ c) $$ [Hk HE] with HD
  · isplitr; · iexact HR
    isplitl [Hk] <;> iassumption
  imodintro
  isplitl [Ht]; · iexact Ht
  isplitl [HD]; · iexact HD
  isplitl [Hb] <;> iassumption

/-- The body from its start to its end. -/
theorem body_all (ht hx ho hg) :
    Start P xs c κ ⊢ Run c (cc0_body tM ht xM hx oM ho gM hg cc0_scratch1 cc0_scratch2 cc0_scratch3 cc0_scratch4) fun _ => Finish P xs c := by
  refine (body_run ht hx ho hg).trans ?_
  unfold Run
  exact (wp_mono _ _ _ fun _ => finish P xs κ c).trans (wp_fupd _ _ _ _ _)

end Cert.Move

end
-- ==== Proof.Region.lean ====
/- The kernel's region: its data, its body's obligation, its entry and its exit. -/
module

public import proofs.«01_k».proof.Proof.Close
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (P : Plan) (xs : Dev nD → Blk F) (V : Dev nD → Valuation τ sig (Elt F))

/-- The buffers' contents after the region: the result's replaced. -/
def After (c : Dev nD) : Valuation τ sig (Elt F) := Function.update (V c) (Proc.devRef .tc main_v60) (P.final xs c)

/-- What the body starts from besides the staged blocks. -/
def Xk (c : Dev nD) : sProp 𝕄 :=
  iprop(∃ κ, records P xs κ ∗ levAts L lv ∗ cred (tallyAt (barCell c) () 4) ∗ atPos ER (barCell c) 0 ∅ 0 ∗ ownOpen c
    ∗ bigSep Finset.univ (entB P c) ∗ bigSep Finset.univ fun i => dutyTok ER (barCell (P.dst i c)) 0 i)

def scr (c : Dev nD) : sProp 𝕄 := iprop(∃ f : Blk F, gAll c f)
def prng (c : Dev nD) : sProp 𝕄 := iprop(∃ r, prngReg c r)

def Φ₀ (c : Dev nD) : sProp 𝕄 := iprop(scr c ∗ prng c ∗ Xk P xs c)
def Φ₁ (c : Dev nD) : sProp 𝕄 := iprop(scr c ∗ prng c ∗ zeros c ∗ semVal (barCell c) 0)

/-- The region's data: the parameters and the input as found, the result as moved. -/
def dats (_ : Fin 1) (c : Dev nD) : Dat τ (Elt F) Unit ℕ UU ℕ cfg0 c where
  A w := V c (Proc.devRef .tc (Pipeline.arrRef spec0 w))
  after w _ := match w with
    | ⟨0, _⟩ => params P c
    | ⟨1, _⟩ => xs c
    | ⟨2, _⟩ => P.final xs c
  Φ t := if t.val = 0 then Φ₀ P xs c else Φ₁ c
  q _ := fullShare
  owed t := if t.val = 0 then O₀ P c else 0

abbrev pdats : (p : Fin 1) → (c : Dev nD) → Dat τ (Elt F) Unit ℕ UU ℕ (cfgs p) c := fun | 0 => dats P xs V 0 | ⟨_ + 1, h⟩ => absurd h (Nat.not_lt.2 (Nat.le_add_left _ _))

theorem owes_in (c : Dev nD) (t : Fin (cfg0.N + 1)) (O : CellTallies nD τ sig Unit) (h : (dats P xs V 0 c).owed t = O) :
    owing c O ⊢ (dats P xs V 0 c).owesAt () t := by
  unfold Dat.owesAt Pipeline.owesWithin Dat.bound
  rw [h]
  iintro ⟨%W, H⟩
  iexists W
  isplitr; · ipureintro; exact fun _ _ => Or.inl trivial
  iexact H

theorem owes_out (c : Dev nD) (t : Fin (cfg0.N + 1)) (O : CellTallies nD τ sig Unit) (h : (dats P xs V 0 c).owed t = O) :
    (dats P xs V 0 c).owesAt () t ⊢ owing c O := by
  unfold Dat.owesAt Pipeline.owesWithin
  rw [h]
  iintro ⟨%W, %hW, H⟩
  iexists W
  iexact H

/-- What the four entry signals use up. -/
theorem signals (c : Dev nD) (f f' : Blk F) :
    iprop(ownOpen c ∗ (gAll c f ∗ oAll c f') ∗ bigSep Finset.univ fun i => dutyTok ER (barCell (P.dst i c)) 0 i)
      ⊢ bigSep (sg 0) (sigPay P c) := by
  have h1 : (bigSep Finset.univ (sigPay P c) : sProp 𝕄)
      = iprop((dutyTok ER (barCell (P.dst 0 c)) 0 0 ∗ emp) ∗ (dutyTok ER (barCell (P.dst 1 c)) 0 1 ∗ emp)
        ∗ (dutyTok ER (barCell (P.dst 2 c)) 0 2 ∗ ((∃ f, gAll c f) ∗ bigSep Finset.univ fun j => reached ER (kCell 1 j c) 0))
        ∗ (dutyTok ER (barCell (P.dst 3 c)) 0 3 ∗ ((∃ f, oAll c f) ∗ bigSep Finset.univ fun j => reached ER (kCell 3 j c) 0))) := by
    have e2 : P.mid (P.dst 2 c) = c := Equiv.apply_symm_apply P.mid c
    have e3 : P.fwd (P.dst 3 c) = c := Equiv.apply_symm_apply P.fwd c
    have p0 : barPay (F := F) P (P.dst 0 c) 0 = iprop(emp) := rfl
    have p1 : barPay (F := F) P (P.dst 1 c) 1 = iprop(emp) := rfl
    have p2 : barPay (F := F) P (P.dst 2 c) 2 = iprop((∃ f, gAll (P.mid (P.dst 2 c)) f) ∗ bigSep Finset.univ fun j => reached ER (kCell 1 j (P.mid (P.dst 2 c))) 0) := rfl
    have p3 : barPay (F := F) P (P.dst 3 c) 3 = iprop((∃ f, oAll (P.fwd (P.dst 3 c)) f) ∗ bigSep Finset.univ fun j => reached ER (kCell 3 j (P.fwd (P.dst 3 c))) 0) := rfl
    rw [bigSep_four]
    unfold sigPay
    rw [p0, p1, p2, p3, e2, e3]
  rw [sg_zero, h1, bigSep_four]
  iintro ⟨#HO, ⟨Hg, Ho⟩, H0, H1, H2, H3⟩
  have hr : ∀ a : Fin 4, ownOpen c ⊢ (bigSep Finset.univ fun j => reached ER (kCell a j c) 0 : sProp 𝕄) := fun a =>
    (bigSep_of_persistent (Finset.univ : Finset (Fin 16)) (ownOpen (F := F) c)).trans (bigSep_mono fun j _ => own_open c a j)
  isplitl [H0]
  · isplitl [H0]; · iexact H0
    iempintro
  isplitl [H1]
  · isplitl [H1]; · iexact H1
    iempintro
  isplitl [H2 Hg]
  · isplitl [H2]; · iexact H2
    isplitl [Hg]; · iexists f; iexact Hg
    iapply (hr 1); iexact HO
  isplitl [H3]; · iexact H3
  isplitl [Ho]; · iexists f'; iexact Ho
  iapply (hr 3); iexact HO

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

variable (hpar : ∀ c, V c (Proc.devRef .tc main_v59) = params P c) (hx : ∀ c, V c (Proc.devRef .tc main_arg0) = xs c)

def bodyPre (c : Dev nD) : sProp 𝕄 :=
  iprop(Φ₀ P xs c ∗ owing c (O₀ P c)
    ∗ (∃ d, stg c cc0_stg0_0 ((dats P xs V 0 c).before (0 : Fin 3) t0_0 d))
    ∗ (∃ d, stg c cc0_stg1_0 ((dats P xs V 0 c).before (1 : Fin 3) t0_0 d))
    ∗ (∃ d, stg c cc0_stg2_0 ((dats P xs V 0 c).before (2 : Fin 3) t0_0 d)))
def bodyPost (c : Dev nD) : sProp 𝕄 :=
  iprop(Φ₁ c ∗ owing c 0 ∗ stg c cc0_stg0_0 (params P c) ∗ stg c cc0_stg1_0 (xs c) ∗ stg c cc0_stg2_0 (P.final xs c))

/-- The one block of each window is its whole array. -/
theorem at_zero_0 : (fun a => win0_0.index t0_0 a * main_v59.ty.shape.size a) = fun _ => 0 := funext fun a => by fin_cases a <;> decide
theorem at_zero_1 : (fun a => win0_1.index t0_0 a * main_arg0.ty.shape.size a) = fun _ => 0 := funext fun a => by fin_cases a <;> decide
theorem at_zero_2 : (fun a => win0_2.index t0_0 a * main_v60.ty.shape.size a) = fun _ => 0 := funext fun a => by fin_cases a <;> decide

include hpar in
theorem before_params (c : Dev nD) (d) : (dats P xs V 0 c).before (0 : Fin 3) t0_0 d = params P c := by
  unfold Dat.before
  rw [if_pos (fetch0_0 t0_0)]
  refine Eq.trans ?_ (hpar c)
  exact Memref.read_access_unit_zero (Elt F) main_v59 at_zero_0 (fun a => by fin_cases a <;> decide) (V c (Proc.devRef .tc main_v59))

include hx in
theorem before_input (c : Dev nD) (d) : (dats P xs V 0 c).before (1 : Fin 3) t0_0 d = xs c := by
  unfold Dat.before
  rw [if_pos (fetch0_1 t0_0)]
  refine Eq.trans ?_ (hx c)
  exact Memref.read_access_unit_zero (Elt F) main_arg0 at_zero_1 (fun a => by fin_cases a <;> decide) (V c (Proc.devRef .tc main_arg0))

/-- The result's array after the region. -/
theorem result_after (c : Dev nD) : (dats P xs V 0 c).arrAt (2 : Fin 3) cfg0.N = P.final xs c := by
  rw [show cfg0.N = (t0_0 : Fin cfg0.N).val + 1 from rfl, (dats P xs V 0 c).arrAt_succ (2 : Fin 3) t0_0]
  rw [if_pos (flush0_2 t0_0)]
  exact Memref.write_access_unit_zero_univ (Elt F) main_v60 at_zero_2 (fun a => by fin_cases a <;> decide) _ (P.final xs c)

theorem before_body (κ : GSem nD τ sig → ℕ) (c : Dev nD) (f f' : Blk F) :
    iprop(tAll c (params P c) ∗ xAll c (xs c) ∗ (gAll c f ∗ oAll c f') ∗ owing c (O₀ P c)
        ∗ (records P xs κ ∗ levAts L lv ∗ cred (tallyAt (barCell c) () 4) ∗ atPos ER (barCell c) 0 ∅ 0 ∗ ownOpen c
          ∗ bigSep Finset.univ (entB P c) ∗ bigSep Finset.univ fun i => dutyTok ER (barCell (P.dst i c)) 0 i))
      ⊢ Start P xs c κ := by
  unfold Start Sg
  iintro ⟨Ht, Hx, Hgo, HO, #HR, #Hl, Hc, Hat, #Hop, He, Hd⟩
  ihave Hs := (signals P c f f') $$ [Hgo Hd]
  · isplitr; · iexact Hop
    isplitl [Hgo] <;> iassumption
  isplitl [Ht]; · iexact Ht
  isplitr; · iexact HR
  isplitl [HO]; · unfold O₀; iexact HO
  isplitl [Hs]; · iexact Hs
  isplitr; · iexact Hl
  isplitl [Hc]; · iexact Hc
  isplitl [Hat]; · iexact Hat
  isplitr; · iexact Hop
  isplitl [Hx] <;> iassumption

theorem after_body (c : Dev nD) : iprop(prng c ∗ Finish P xs c) ⊢ bodyPost P xs c := by
  unfold Finish bodyPost Φ₁ scr
  iintro ⟨Hp, Ht, ⟨Hz, Hx, Hg, Ho⟩, Hb, HO⟩
  isplitl [Hp Hz Hg Hb]
  · isplitl [Hg]; · iexists _; iexact Hg
    isplitl [Hp]; · iexact Hp
    isplitl [Hz] <;> iassumption
  isplitl [HO]; · iexact HO
  isplitl [Ht]
  · iexists _; isplitr; · (ipureintro; rfl)
    iexact Ht
  isplitl [Hx]
  · iexists _; isplitr; · (ipureintro; rfl)
    iexact Hx
  iexists _; isplitr; · (ipureintro; rfl)
  iexact Ho

include hpar hx in
theorem sound_body (c : Dev nD) (ht hx' ho hg) :
    bodyPre P xs V c ⊢ Run c (cc0_body tM ht xM hx' oM ho gM hg cc0_scratch1 cc0_scratch2 cc0_scratch3 cc0_scratch4) fun _ => bodyPost P xs c := by
  unfold bodyPre Φ₀ scr Xk
  iintro ⟨⟨⟨%f, Hg⟩, Hp, %κ, HR⟩, HO, ⟨%d0, %g0, %hg0, Ht⟩, ⟨%d1, %g1, %hg1, Hx⟩, ⟨%d2, %g2, %hg2, Hout⟩⟩
  have e0 : g0 = params P c := hg0.trans (before_params P xs V hpar c d0)
  have e1 : g1 = xs c := hg1.trans (before_input P xs V hx c d1)
  subst e0 e1
  ihave Hs := (before_body P xs κ c f g2) $$ [Hg HR HO Ht Hx Hout]
  · isplitl [Ht]; · iexact Ht
    isplitl [Hx]; · iexact Hx
    isplitl [Hg Hout]; · isplitl [Hg] <;> iassumption
    isplitl [HO]; · iexact HO
    iexact HR
  iapply (show iprop(prng c ∗ Start P xs c κ) ⊢ Run c (cc0_body tM ht xM hx' oM ho gM hg cc0_scratch1 cc0_scratch2 cc0_scratch3 cc0_scratch4) fun _ => bodyPost P xs c from
    (sep_mono_right (body_all P xs κ c ht hx' ho hg)).trans
      ((wp_frame_l frame (wpE (defs₀ (F := F)) 𝒱₀ c none) Set.univ).trans (wp_mono _ _ _ fun _ => after_body P xs c)))
  isplitl [Hp] <;> iassumption

include hpar hx in
/-- The body's obligation. -/
theorem body_obligation (c : Dev nD) : BodyObligation (dats P xs V 0 c) (defs₀ (F := F)) 𝒱₀ () Set.univ := fun t => by
  rw [fin_N0 t]
  rw [bigSep_W0, bigSep_W0]
  simp only [owns_whole_eq]
  refine chain ?_ (chain (sound_body P xs V hpar hx c (hstage0_0 0) (hstage0_1 0) (hstage0_2 0) (Memref.isWhole_whole _)) (wp_mono _ _ _ fun _ => ?_))
  · show iprop(Φ₀ P xs c ∗ (dats P xs V 0 c).owesAt () t0_0.castSucc
      ∗ (∃ d, stg c cc0_stg0_0 ((dats P xs V 0 c).before (0 : Fin 3) t0_0 d))
      ∗ (∃ d, stg c cc0_stg1_0 ((dats P xs V 0 c).before (1 : Fin 3) t0_0 d))
      ∗ (∃ d, stg c cc0_stg2_0 ((dats P xs V 0 c).before (2 : Fin 3) t0_0 d))) ⊢ _
    unfold bodyPre
    exact sep_mono_right (sep_mono_left (owes_out P xs V c _ _ rfl))
  · show _ ⊢ iprop(Φ₁ c ∗ (dats P xs V 0 c).owesAt () t0_0.succ ∗ stg c cc0_stg0_0 (params P c) ∗ stg c cc0_stg1_0 (xs c) ∗ stg c cc0_stg2_0 (P.final xs c))
    unfold bodyPost
    exact sep_mono_right (sep_mono_left (owes_in P xs V c _ _ rfl))

end Cert.Move

end
-- ==== Proof.Segment.lean ====
/- The region as one segment of the program: what it is entered with, and what it leaves. -/
module

public import proofs.«01_k».proof.Proof.Region
public import proofs.«01_k».proof.Proof.Gen.KernelIdeal.Regions

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (P : Plan) (xs : Dev nD → Blk F) (V : Dev nD → Valuation τ sig (Elt F))

/-- What the launch deals device `c` for the region. -/
def Tk (c : Dev nD) : sProp 𝕄 :=
  iprop(∃ κ, records P xs κ ∗ cred (tallyAt (barCell c) () 4) ∗ atPos ER (barCell c) 0 ∅ 0
    ∗ (bigSep Finset.univ fun k : Fin 4 × Fin 16 => openTok ER (kCell k.1 k.2 c))
    ∗ (bigSep Finset.univ (tokB P c) ∗ bigSep Finset.univ (credB P c))
    ∗ bigSep Finset.univ fun i => dutyTok ER (barCell (P.dst i c)) 0 i)

theorem open_one (κ : GSem nD τ sig → ℕ) (c : Dev nD) (k : Fin 4 × Fin 16) :
    iprop(records P xs κ ∗ (openTok ER (kCell k.1 k.2 c) ∗ semVal (kCell k.1 k.2 c) 0))
      ⊢ (|={Set.univ}=> iprop(atPos ER (kCell k.1 k.2 c) 0 ∅ 0 ∗ reached ER (kCell k.1 k.2 c) 0) : sProp 𝕄) := by
  iintro ⟨#HR, Ho, Hs⟩
  iapply (Rounds.cell_open ER (rd P xs) (g := kCell k.1 k.2 c) (Set.mem_univ (κ (kCell k.1 k.2 c))))
  isplitr; · iapply (inv_at P xs κ (k_mem k.1 k.2 c)); iexact HR
  isplitl [Ho] <;> iassumption

theorem positions (c : Dev nD) :
    (bigSep Finset.univ fun k : Fin 4 × Fin 16 => (atPos ER (kCell k.1 k.2 c) 0 ∅ 0 : sProp 𝕄)) = bigSep Finset.univ (posB c) := by
  rw [bigSep_univ_prod, bigSep_four]
  unfold posB
  simp only [bigSep_sep']

/-- Every own cell opened. -/
theorem open_all (κ : GSem nD τ sig → ℕ) (c : Dev nD) :
    iprop(records P xs κ ∗ ((bigSep Finset.univ fun k : Fin 4 × Fin 16 => openTok ER (kCell k.1 k.2 c)) ∗ zeros c))
      ⊢ (|={Set.univ}=> iprop(bigSep Finset.univ (posB c) ∗ ownOpen c) : sProp 𝕄) := by
  unfold zeros ownOpen
  rw [← positions, ← bigSep_sep', ← bigSep_sep']
  exact (bigSep_with_persistent (R := records P xs κ) fun k _ => open_one P xs κ c k).trans (bigSep_fupd _ _)

theorem enter (c : Dev nD) :
    iprop(Tk P xs c ∗ Pipeline.ownSems0 osem c ∗ levAts L lv) ⊢ (|={Set.univ}=> Xk P xs c : sProp 𝕄) := by
  rw [show (Pipeline.ownSems0 osem c : sProp 𝕄) = zeros c from rfl]
  have e : (bigSep Finset.univ (entB P c) : sProp 𝕄) = iprop(bigSep Finset.univ (posB c) ∗ bigSep Finset.univ (tokB P c) ∗ bigSep Finset.univ (credB P c)) := by
    unfold entB; simp only [bigSep_sep']
  unfold Tk Xk
  rw [e]
  iintro ⟨⟨%κ, #HR, Hc, Hat, Ho, ⟨Ht, Hcr⟩, Hd⟩, Hz, Hl⟩
  imod (open_all P xs κ c) $$ [Ho Hz] with ⟨Hp, Hop⟩
  · isplitr; · iexact HR
    isplitl [Ho] <;> iassumption
  imodintro
  iexists κ
  isplitr; · iexact HR
  isplitl [Hl]; · iexact Hl
  isplitl [Hc]; · iexact Hc
  isplitl [Hat]; · iexact Hat
  isplitl [Hop]; · iexact Hop
  isplitr [Hd]
  · isplitl [Hp]; · iexact Hp
    isplitl [Ht] <;> iassumption
  iexact Hd

theorem osem_facts : Pipeline.OwnSemFacts spec0 osem where
  isScoped := by decide
  inj := osem_inj
  disj := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cut (c : Dev nD) (t : Fin (cfg0.N + 1)) (g : GSem nD τ sig) (i : Unit) (h : 0 < (dats P xs V 0 c).owed t g i) :
    i ∈ L g ∧ (0 : ℕ) < lv g i := by
  have e : (dats P xs V 0 c).owed t = if t.val = 0 then O₀ P c else 0 := rfl
  rw [e] at h
  split at h
  · exact O₀_above P c g i h
  · exact absurd h (Nat.lt_irrefl 0)

theorem staging_low (c : Dev nD) (w : Fin cfg0.W) (s : Fin (cfg0.win w).nbuf) : lv ((c : Thread nD τ), .dma ((cfg0.win w).sem s)) () ≤ 0 := by
  show (if (((cfg0.win w).sem s).val - 3) / 16 = 1 then 2 else if (((cfg0.win w).sem s).val - 3) / 16 = 3 then 3 else 0) ≤ 0
  revert w s; decide

/-- The unscoped buffers that are no window's array. -/
abbrev rest : Finset (DevRef τ sig) := Pipeline.ucRefs τ sig \ Pipeline.arrRefs (τ := τ) spec0

theorem result_mem : Proc.devRef .tc main_v60 ∈ Pipeline.arrRefs (τ := τ) spec0 := by
  unfold Pipeline.arrRefs
  exact Finset.mem_map_of_mem _ (Finset.mem_image.mpr ⟨(2 : Fin 3), Finset.mem_univ _, rfl⟩)

theorem rest_same (c : Dev nD) (b : DevRef τ sig) (h : b ∈ rest) : After P xs V c b = V c b := by
  unfold After
  refine Function.update_of_ne (fun e => ?_) _ _
  subst e
  exact (Finset.mem_sdiff.mp h).2 result_mem

theorem after_at (c : Dev nD) : After P xs V c (Proc.devRef .tc main_v60) = P.final xs c := Function.update_self ..
theorem after_of (c : Dev nD) (r : Ref sig .tc) (h : r ≠ main_v60) : After P xs V c (Proc.devRef .tc r) = V c (Proc.devRef .tc r) :=
  Function.update_of_ne (StableHlo.devRef_ne_of_ne h) _ _

theorem arrays_after (c : Dev nD) (w : Fin 3) : (dats P xs V 0 c).arrAt w cfg0.N = After P xs V c (Proc.devRef .tc (Pipeline.arrRef spec0 w)) := by
  match w with
  | ⟨0, _⟩ => exact ((dats P xs V 0 c).arrAt_in (0 : Fin 3) rfl _).trans (after_of P xs V c main_v59 (by decide)).symm
  | ⟨1, _⟩ => exact ((dats P xs V 0 c).arrAt_in (1 : Fin 3) rfl _).trans (after_of P xs V c main_arg0 (by decide)).symm
  | ⟨2, _⟩ => exact (result_after P xs V c).trans (after_at P xs V c).symm

theorem enter_body (c : Dev nD) : iprop(Pipeline.scopedRest (Pipeline.pin (pcfgs (F := F)) adm 0).spec c ∗ (∃ r, prngReg c r)
      ∗ StableHlo.held (c.tc : Thread nD τ) ∅ (V c) ∗ Xk P xs c) ⊢ (pdats P xs V 0 c).Φ 0 := by
  rw [show (pdats P xs V 0 c).Φ 0 = Φ₀ P xs c from rfl, show (Pipeline.pin (pcfgs (F := F)) adm 0).spec = spec0 from rfl, scopedRest0_eq]
  unfold Φ₀ scr prng
  iintro ⟨Hs, Hp, -, HX⟩
  isplitl [Hs]; · iexact Hs
  isplitl [Hp] <;> iassumption

theorem leave_body (c : Dev nD) : (pdats P xs V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (After P xs V c) ∗ Pipeline.ownSems0 osem c ∗ semVal (barCell c) 0) := by
  rw [show (pdats P xs V 0 c).Φ (Fin.last (Pipeline.pin (pcfgs (F := F)) adm 0).N) = Φ₁ c from rfl,
    show (Pipeline.pin (pcfgs (F := F)) adm 0).spec = spec0 from rfl, scopedRest0_eq,
    show (Pipeline.ownSems0 osem c : sProp 𝕄) = zeros c from rfl,
    show (StableHlo.held (c.tc : Thread nD τ) ∅ (After P xs V c) : sProp 𝕄) = iprop(emp) from bigSep_empty]
  unfold Φ₁ scr prng
  iintro ⟨Hs, Hp, Hz, Hb⟩
  isplitl [Hs]; · iexact Hs
  isplitl [Hp]; · iexact Hp
  isplitr; · iempintro
  isplitl [Hz] <;> iassumption

variable (hpar : ∀ c, V c (Proc.devRef .tc main_v59) = params P c) (hx : ∀ c, V c (Proc.devRef .tc main_arg0) = xs c)

set_option backward.isDefEq.respectTransparency.types false in
/-- The region. -/
def region : Pipeline.RegionSeg (pcfgs (F := F)) adm (pdats P xs V) () defs₀ 𝒱₀ L lv 0 :=
  Pipeline.RegionSeg.ofTalk (pcfgs (F := F)) adm (pdats P xs V) () defs₀ 𝒱₀ L lv 0 osem osem_facts
    ∅ rest (Finset.empty_subset _) kit rfl (fun c => (body_obligation P xs V hpar hx c).loose)
    (fun _ => 0) (O₀ P) (fun c => (zero_add _).symm) (fun _ => rfl) (fun _ => rfl) (fun c w => by show (dats P xs V 0 c).share w = fullShare; unfold Dat.share; split <;> rfl)
    V (After P xs V) (fun c b hb => rest_same P xs V c b (Finset.sdiff_subset hb))
    (Tk P xs) (fun c => semVal (barCell c) 0) (Xk P xs) (fun c => semVal (barCell c) 0) (enter P xs) (enter_body P xs V) (leave_body P xs V)
    (fun c => by iintro H; imodintro; iexact H)
    (fun _ => 0)
    ⟨fun c w s => mem_L c _ (), fun c w s => staging_low c w s, fun c t g i h => owed_cut P xs V c t g i h⟩
    (fun _ => iprop(emp))
    (fun _ _ => rfl) (arrays_after P xs V)

theorem arr_sub : Pipeline.arrRefs (τ := τ) spec0 ⊆ Pipeline.ucRefs τ sig := Pipeline.arrRefs_sub_ucRefs spec0 (by decide)

theorem region_in (c : Dev nD) :
    iprop(StableHlo.held (c : Thread nD τ) (Pipeline.ucRefs τ sig) (V c) ∗ (Tk P xs c ∗ prng c ∗ owing c (O₀ P c))) ⊢ (region P xs V hpar hx).pre c := by
  show _ ⊢ iprop(StableHlo.held (c.tc : Thread nD τ) (Pipeline.arrRefs (τ := τ) spec0) (V c) ∗ (∃ r, prngReg c r)
    ∗ (StableHlo.held (c.tc : Thread nD τ) rest (V c) ∗ emp) ∗ Tk P xs c ∗ ∃ Wd, owes (c : Thread nD τ) (0 + O₀ P c) Wd)
  rw [zero_add, StableHlo.held_sub_split (c : Thread nD τ) arr_sub (V c)]
  unfold prng
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_out (c : Dev nD) : (region P xs V hpar hx).post c
    ⊢ iprop(StableHlo.held (c : Thread nD τ) (Pipeline.ucRefs τ sig) (After P xs V c) ∗ (semVal (barCell c) 0 ∗ owing c 0)) := by
  show iprop(StableHlo.held (c.tc : Thread nD τ) (Pipeline.arrRefs (τ := τ) spec0) (After P xs V c) ∗ (∃ r, prngReg c r)
    ∗ (StableHlo.held (c.tc : Thread nD τ) rest (After P xs V c) ∗ emp) ∗ semVal (barCell c) 0 ∗ ∃ Wd, owes (c : Thread nD τ) (0 : CellTallies nD τ sig Unit) Wd) ⊢ _
  rw [StableHlo.held_sub_split (c : Thread nD τ) arr_sub (After P xs V c)]
  iintro ⟨Ha, -, ⟨Hr, -⟩, Hb, HO⟩
  isplitl [Ha Hr]; · isplitl [Ha] <;> iassumption
  isplitl [Hb] <;> iassumption

end Cert.Move

end
-- ==== Proof.Deal.lean ====
/- What the launch deals: the duty tokens, the credits, and the launch element. -/
module

public import proofs.«01_k».proof.Proof.Segment

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Plan)

/-! ## The credits -/

theorem sum_at {ι : Type} (S : Finset ι) (cell : ι → GSem nD τ sig) (n : ℕ) (g : GSem nD τ sig) :
    (∑ j ∈ S, tallyAt (cell j) () n : CellTallies nD τ sig Unit) g () = ∑ j ∈ S, if g = cell j then n else 0 := by
  rw [Finset.sum_apply, Finsupp.finset_sum_apply]
  refine Finset.sum_congr rfl fun j _ => ?_
  rw [tallyAt_apply]
  simp

theorem sum_leg (a : Fin 4) (j : Fin 16) (c d : Dev nD) (n : ℕ) :
    (∑ i ∈ tl 0, tallyAt (kCell a i d) () n : CellTallies nD τ sig Unit) (kCell a j c) () = if d = c then n else 0 := by
  rw [sum_at, tl_zero, Finset.sum_eq_single j]
  · by_cases h : d = c
    · subst h; rw [if_pos rfl, if_pos rfl]
    · rw [if_neg h, if_neg fun e => h (congrArg (fun g : GSem nD τ sig => g.1.1) e).symm]
  · intro i _ hi
    refine if_neg fun e => hi ?_
    have h := congrArg Prod.snd e
    exact (ksem_inj (SemLoc.dma.inj h)).2.symm
  · exact fun h => absurd (Finset.mem_univ j) h

theorem leg_ne {a b : Fin 4} (h : a ≠ b) (j i : Fin 16) (c d : Dev nD) : kCell a j c ≠ kCell b i d := fun e =>
  h (ksem_inj (SemLoc.dma.inj (congrArg Prod.snd e))).1

theorem O2_zero {d : Dev nD} {g : GSem nD τ sig} (h : ∀ j c, g ≠ kCell 3 j c) : O2 P d 0 g () = 0 :=
  Nat.eq_zero_of_not_pos fun hp => by obtain ⟨j, e⟩ := O2_pos P hp; exact h _ _ e
theorem O1_zero {d : Dev nD} {g : GSem nD τ sig} (h : ∀ j c, g ≠ kCell 1 j c) : O1 P d 0 g () = 0 :=
  Nat.eq_zero_of_not_pos fun hp => by obtain ⟨j, e⟩ := O1_pos P hp; exact h _ _ e
theorem OB_zero {d : Dev nD} {g : GSem nD τ sig} (h : ∀ c, g ≠ barCell c) : OB P d 0 g () = 0 :=
  Nat.eq_zero_of_not_pos fun hp => by obtain ⟨j, e⟩ := OB_pos P hp; exact h _ e

theorem owed_split (d : Dev nD) (g : GSem nD τ sig) : O₀ P d g () = O2 P d 0 g () + O1 P d 0 g () + OB P d 0 g () := by
  unfold O₀; rw [Pi.add_apply, Finsupp.add_apply, Pi.add_apply, Finsupp.add_apply]

/-- Along a permutation exactly one device is sent to `c`. -/
theorem sum_perm (e : Equiv.Perm (Dev nD)) (n : Dev nD → ℕ) (c : Dev nD) : (∑ d, if e d = c then n d else 0) = n (e.symm c) := by
  rw [Finset.sum_eq_single (e.symm c)]
  · rw [if_pos (e.apply_symm_apply c)]
  · exact fun d _ h => if_neg fun he => h (by rw [← he, e.symm_apply_apply])
  · exact fun h => absurd (Finset.mem_univ _) h

theorem n1_back (c : Dev nD) : n1 P (P.mid.symm c) = n1 P c := by
  unfold n1
  refine if_congr ?_ rfl rfl
  rw [P.mid.apply_symm_apply, eq_comm, Equiv.symm_apply_eq, eq_comm]
theorem n2_back (c : Dev nD) : n2 P (P.fwd.symm c) = n2 P c := by
  unfold n2
  refine if_congr ?_ rfl rfl
  rw [P.fwd.apply_symm_apply, eq_comm, Equiv.symm_apply_eq, eq_comm]

theorem total_first (j : Fin 16) (c : Dev nD) : (∑ d, O₀ P d (kCell 1 j c) ()) = n1 P c := by
  rw [Finset.sum_congr rfl fun d _ => show O₀ P d (kCell 1 j c) () = if P.mid d = c then n1 P d else 0 by
    rw [owed_split, O2_zero P fun _ _ => leg_ne (by decide) _ _ _ _, OB_zero P fun _ => kCell_ne_bar _ _ _ _]
    unfold O1; rw [sum_leg]; omega]
  rw [sum_perm P.mid (n1 P), n1_back]
theorem total_second (j : Fin 16) (c : Dev nD) : (∑ d, O₀ P d (kCell 3 j c) ()) = n2 P c := by
  rw [Finset.sum_congr rfl fun d _ => show O₀ P d (kCell 3 j c) () = if P.fwd d = c then n2 P d else 0 by
    rw [owed_split, O1_zero P fun _ _ => leg_ne (by decide) _ _ _ _, OB_zero P fun _ => kCell_ne_bar _ _ _ _]
    unfold O2; rw [sum_leg]; omega]
  rw [sum_perm P.fwd (n2 P), n2_back]
theorem total_bar (c : Dev nD) : (∑ d, O₀ P d (barCell c) ()) = 4 := by
  have h (d : Dev nD) : O₀ P d (barCell c) () = ∑ i : Fin 4, if P.dst i d = c then 1 else 0 := by
    rw [owed_split, O1_zero P fun _ _ e => kCell_ne_bar _ _ _ _ e.symm, O2_zero P fun _ _ e => kCell_ne_bar _ _ _ _ e.symm]
    unfold OB
    rw [sum_at, Finset.filter_true_of_mem fun i _ => Nat.zero_le _, show ∀ n : ℕ, 0 + 0 + n = n from fun n => by omega]
    refine Finset.sum_congr rfl fun i _ => if_congr ⟨fun e => ?_, fun e => ?_⟩ rfl rfl
    · exact (congrArg (fun g : GSem nD τ sig => g.1.1) e).symm
    · rw [e]
  rw [Finset.sum_congr rfl fun d _ => h d, Finset.sum_comm, Finset.sum_congr rfl fun i _ => sum_perm (P.dst i) (fun _ => 1) c]
  rfl

theorem launch_cell (g : GSem nD τ sig) (n : ℕ) (h : (∑ d, O₀ P d g ()) = n) :
    tallyOn g (launchCredit (Pipeline.owing (O₀ P)) 0 g) = (tallyAt g () n : CellTallies nD τ sig Unit) := by
  unfold tallyAt
  refine congrArg _ (Finsupp.ext fun u => ?_)
  cases u
  rw [Pipeline.launchCredit_owing, Finsupp.single_eq_same, h]

theorem creds (c : Dev nD) :
    (Pipeline.launchCred (O₀ P) c : sProp 𝕄) ⊢ iprop(cred (tallyAt (barCell c) () 4) ∗ bigSep Finset.univ (credB P c)) := by
  unfold Pipeline.launchCred
  rw [bigSep_univ_at _ (SemLoc.reg barrier0), launch_cell P (barCell c) 4 (total_bar P c)]
  refine sep_mono_right ?_
  have hs : Finset.univ.map ⟨osem, osem_inj⟩ ⊆ Finset.univ.erase (SemLoc.reg barrier0) := fun s hs => by
    obtain ⟨k, -, rfl⟩ := Finset.mem_map.mp hs
    exact Finset.mem_erase.mpr ⟨fun h => (nomatch h), Finset.mem_univ _⟩
  have e : (bigSep Finset.univ (credB P c) : sProp 𝕄)
      = iprop((bigSep Finset.univ fun j => cred (tallyAt (kCell 1 j c) () (n1 P c))) ∗ bigSep Finset.univ fun j => cred (tallyAt (kCell 3 j c) () (n2 P c))) := by
    unfold credB; rw [bigSep_sep']
  have h1 : (bigSep Finset.univ fun j : Fin 16 => (cred (tallyAt (kCell 1 j c) () (n1 P c)) : sProp 𝕄))
      = bigSep Finset.univ fun j => cred (tallyOn (kCell 1 j c) (launchCredit (Pipeline.owing (O₀ P)) 0 (kCell 1 j c))) :=
    bigSep_congr fun j _ => by rw [launch_cell P (kCell 1 j c) _ (total_first P j c)]
  have h3 : (bigSep Finset.univ fun j : Fin 16 => (cred (tallyAt (kCell 3 j c) () (n2 P c)) : sProp 𝕄))
      = bigSep Finset.univ fun j => cred (tallyOn (kCell 3 j c) (launchCredit (Pipeline.owing (O₀ P)) 0 (kCell 3 j c))) :=
    bigSep_congr fun j _ => by rw [launch_cell P (kCell 3 j c) _ (total_second P j c)]
  refine chain (bigSep_subset hs) ?_
  rw [bigSep_map, bigSep_univ_prod, bigSep_four, e, h1, h3]
  iintro ⟨-, H1, -, H3⟩
  isplitl [H1]
  · iexact H1
  · iexact H3

/-! ## The duty tokens -/

/-- Every duty: four on each barrier cell, one on each copy's cell. -/
def tokEmb : (Dev nD × Fin 4) ⊕ (Dev nD × (Fin 4 × Fin 16)) ↪ GSem nD τ sig × ℕ × Fin 4 where
  toFun
    | .inl x => (barCell x.1, 0, x.2)
    | .inr x => (kEmb x, 0, 0)
  inj' x y h := by
    match x, y, h with
    | .inl x, .inl y, h => exact congrArg Sum.inl (Prod.ext (congrArg (fun t : GSem nD τ sig × ℕ × Fin 4 => t.1.1.1) h) (congrArg (fun t : GSem nD τ sig × ℕ × Fin 4 => t.2.2) h))
    | .inr x, .inr y, h => exact congrArg Sum.inr (kEmb.injective (congrArg Prod.fst h))
    | .inl x, .inr y, h => cases congrArg (fun t : GSem nD τ sig × ℕ × Fin 4 => t.1.2) h
    | .inr x, .inl y, h => cases congrArg (fun t : GSem nD τ sig × ℕ × Fin 4 => t.1.2) h

def toks : Finset (GSem nD τ sig × ℕ × Fin 4) := Finset.univ.map tokEmb

theorem toks_dealt : (bigSep toks fun x => (dutyTok ER x.1 x.2.1 x.2.2 : sProp 𝕄))
    = iprop((bigSep Finset.univ fun c : Dev nD => bigSep Finset.univ fun i => dutyTok ER (barCell (P.dst i c)) 0 i)
      ∗ bigSep Finset.univ fun c : Dev nD => bigSep Finset.univ (tokB P c)) := by
  have e1 : (bigSep Finset.univ fun x : Dev nD × Fin 4 => (dutyTok ER (barCell x.1) 0 x.2 : sProp 𝕄))
      = bigSep Finset.univ fun c : Dev nD => bigSep Finset.univ fun i => dutyTok ER (barCell (P.dst i c)) 0 i := by
    rw [bigSep_univ_prod]
    simp only [bigSep_four, bigSep_sep']
    rw [bigSep_univ_equiv (P.dst 0) fun c : Dev nD => (dutyTok ER (barCell c) 0 (0 : Fin 4) : sProp 𝕄),
      bigSep_univ_equiv (P.dst 1) fun c : Dev nD => (dutyTok ER (barCell c) 0 (1 : Fin 4) : sProp 𝕄),
      bigSep_univ_equiv (P.dst 2) fun c : Dev nD => (dutyTok ER (barCell c) 0 (2 : Fin 4) : sProp 𝕄),
      bigSep_univ_equiv (P.dst 3) fun c : Dev nD => (dutyTok ER (barCell c) 0 (3 : Fin 4) : sProp 𝕄)]
  have e2 : (bigSep Finset.univ fun x : Dev nD × (Fin 4 × Fin 16) => (dutyTok ER (kCell x.2.1 x.2.2 x.1) 0 0 : sProp 𝕄))
      = bigSep Finset.univ fun c : Dev nD => bigSep Finset.univ (tokB P c) := by
    unfold tokB
    rw [bigSep_univ_prod]
    simp only [bigSep_univ_prod (α := Fin 4), bigSep_four, bigSep_sep']
    rw [bigSep_univ_equiv P.mid fun c : Dev nD => bigSep Finset.univ fun j : Fin 16 => (dutyTok ER (kCell 1 j c) 0 0 : sProp 𝕄),
      bigSep_univ_equiv P.fwd fun c : Dev nD => bigSep Finset.univ fun j : Fin 16 => (dutyTok ER (kCell 3 j c) 0 0 : sProp 𝕄)]
  unfold toks
  rw [bigSep_map, bigSep_univ_sum, ← e1, ← e2]
  rfl

/-! ## The launch element -/

theorem disjoint_cells : Disjoint (barCells : Finset (GSem nD τ sig)) kCells := by
  rw [Finset.disjoint_left]
  rintro g h₁ h₂
  obtain ⟨c, -, rfl⟩ := Finset.mem_map.mp h₁
  obtain ⟨x, -, h⟩ := Finset.mem_map.mp h₂
  cases congrArg Prod.snd h

/-- The launch's ghost element: the staging's, and the protocol's. -/
def u₀ : UU :=
  (initOf (Pipeline.cells (Pipeline.pin (pcfgs (F := F)) adm) cellOf_inj) (Pipeline.launchToks (Pipeline.pin (pcfgs (F := F)) adm) cellOf_inj),
    launchOf barCells kCells toks)

/-- A resource given to device 0 alone. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells kCells toks)))

theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem unscoped_only : ∀ sm : SemLoc sig, sm.isScoped .tc = false → sm = .reg barrier0 := by decide

end Cert.Move

end
-- ==== Proof.Run.lean ====
/- The whole program's run: what every final memory holds. -/
module

public import proofs.«01_k».proof.Proof.Deal
public import Idealize.ShloMosaic.Harness.Basic

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Plan) (m : (ℓ : Loc nD τ sig) → Buf (Elt F) ℓ) (ρ : Dev nD → PrngReg)

/-- The blocks the devices are launched with. -/
abbrev inputs (c : Dev nD) : Blk F := m ((c : Thread nD τ).loc main_arg0)

theorem V5_arg0 (c : Dev nD) : V5 m c (Proc.devRef .tc main_arg0) = inputs m c :=
  (V5_of m c main_arg0 (by decide)).trans <| (V4_of m c main_arg0 (by decide)).trans <| (V3_of m c main_arg0 (by decide)).trans <|
    (V2_of m c main_arg0 (by decide)).trans <| (V1_of m c main_arg0 (by decide)).trans rfl
theorem V5_arg1 (c : Dev nD) : V5 m c (Proc.devRef .tc main_arg1) = m ((c : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide)).trans rfl

/-- Before the region and after it, a device holds besides its buffers: -/
def Ride (k : Fin 2) (c : Dev nD) : sProp 𝕄 :=
  if k = 0 then iprop(Tk P (inputs m) c ∗ prng c ∗ owing c (O₀ P c)) else iprop(semVal (barCell c) 0 ∗ owing c 0)

/-- A device's share of the launch that is not the protocol's ghost state. -/
def plain (c : Dev nD) : sProp 𝕄 :=
  iprop(StableHlo.held (c : Thread nD τ) (Pipeline.ucRefs τ sig) (V0 m c) ∗ (cred (tallyAt (barCell c) () 4) ∗ bigSep Finset.univ (credB P c)) ∗ owing c (O₀ P c) ∗ prng c)

/-- And what is. -/
def ghost (c : Dev nD) : sProp 𝕄 :=
  iprop(atPos ER (barCell c) 0 ∅ 0 ∗ (bigSep Finset.univ fun k : Fin 4 × Fin 16 => openTok ER (kCell k.1 k.2 c))
    ∗ (bigSep Finset.univ fun i => dutyTok ER (barCell (P.dst i c)) 0 i) ∗ bigSep Finset.univ (tokB P c))

abbrev Launched (c : Dev nD) : sProp 𝕄 := iprop(StableHlo.held (c : Thread nD τ) (Pipeline.ucRefs τ sig) (V0 m c) ∗ Ride P m 0 c)

theorem launched_intro (κ : GSem nD τ sig → ℕ) (c : Dev nD) :
    iprop(records P (inputs m) κ ∗ (ghost P c ∗ plain P m c)) ⊢ (Launched P m c : sProp 𝕄) := by
  unfold ghost plain Launched Ride Tk
  rw [if_pos rfl]
  iintro ⟨#HR, ⟨Hat, Ho, Hd, Ht⟩, Hh, ⟨Hc, Hcr⟩, HO, Hp⟩
  isplitl [Hh]; · iexact Hh
  isplitr [Hp HO]
  · iexists κ
    isplitr; · iexact HR
    isplitl [Hc]; · iexact Hc
    isplitl [Hat]; · iexact Hat
    isplitl [Ho]; · iexact Ho
    isplitl [Ht Hcr]
    · isplitl [Ht] <;> iassumption
    iexact Hd
  isplitl [Hp] <;> iassumption

theorem share_split (c : Dev nD) : iprop(unscopedBufs c (fun b => m ((c : Thread nD τ).loc b)) ∗ unscopedSems0 c
      ∗ owes (c : Thread nD τ) (O₀ P c) ∅ ∗ Pipeline.launchCred (O₀ P) c ∗ prngReg c (ρ c) ∗ G c)
    ⊢ (iprop(plain P m c ∗ (semVal (barCell c) 0 ∗ G c)) : sProp 𝕄) := by
  rw [show unscopedBufs c (fun b => m ((c : Thread nD τ).loc b)) = (StableHlo.held (c : Thread nD τ) (Pipeline.ucRefs τ sig) (V0 m c) : sProp 𝕄) from
    Pipeline.unscopedBufs_held (Ix := Unit) (Name := ℕ) (U := UU) (Lvl := ℕ) c (V0 m c), unscoped_bar]
  unfold plain prng
  iintro ⟨Hh, Hus, HO, Hcr, Hp, HG⟩
  ihave Hc := (creds (F := F) P c) $$ Hcr
  isplitl [Hh Hc HO Hp]
  · isplitl [Hh]; · iexact Hh
    isplitl [Hc]; · iexact Hc
    isplitl [HO]
    · iexists ∅; iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ P c) ∅ ∗ Pipeline.launchCred (O₀ P) c ∗ prngReg c (ρ c) ∗ G c)) ∗ levAts L lv)
      ⊢ (|={Set.univ}=> bigSep Finset.univ (Launched P m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep kCells (fun g => (openTok ER g : sProp 𝕄))
      ⊢ bigSep Finset.univ (fun c : Dev nD => bigSep Finset.univ fun k : Fin 4 × Fin 16 => openTok ER (kCell k.1 k.2 c)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ P c) ∅ ∗ Pipeline.launchCred (O₀ P) c ∗ prngReg c (ρ c) ∗ G c))
      ⊢ (bigSep Finset.univ fun c : Dev nD => iprop(plain P m c ∗ (semVal (barCell c) 0 ∗ G c)) : sProp 𝕄) from bigSep_mono fun c _ => share_split P m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells kCells toks)) from
    Entails.of_eq (bigSep_atZero (F := F) (BI.own (ER (launchOf barCells kCells toks))))) $$ HG
  imod (Rounds.fund_launch ER (rd P (inputs m)) disjoint_cells (fun g _ h => h) toks) $$ [Hv Hu] with ⟨%κ, -, #Hinv, #Hr, Hat, Hopen, Htok⟩
  · isplitl [Hv]
    · iapply hv $$ Hv
    · iexact Hu
  imodintro
  ihave Htk := (Entails.of_eq (toks_dealt (F := F) P)) $$ Htok
  icases Htk with ⟨Hd, Ht⟩
  iapply (bigSep_with_persistent (R := records P (inputs m) κ) (Φ := fun c => iprop(ghost P c ∗ plain P m c)) fun c _ => launched_intro P m κ c)
  isplitr
  · unfold records
    isplitr; · iexact Hinv
    iexact Hr
  iapply Smoke.bigSep_pair
  isplitr [HB]
  · unfold ghost
    iapply Smoke.bigSep_pair; isplitl [Hat]; · iapply hat $$ Hat
    iapply Smoke.bigSep_pair; isplitl [Hopen]; · iapply hopen $$ Hopen
    iapply Smoke.bigSep_pair; isplitl [Hd]; · iexact Hd
    iexact Ht
  · iexact HB

/-- The region, entered from the host's values. -/
abbrev reg (hpar : ∀ c, V5 m c (Proc.devRef .tc main_v59) = params P c) : Pipeline.RegionSeg (pcfgs (F := F)) adm (pdats P (inputs m) (V5 m)) () defs₀ 𝒱₀ L lv 0 :=
  region P (inputs m) (V5 m) hpar (V5_arg0 m)

set_option backward.isDefEq.respectTransparency.types false in
/-- Every weakly fair execution ends, with the arguments as launched, each device's result the block the plan
    brings it, and every counter at zero. -/
theorem run_main (hpar : ∀ c, V5 m c (Proc.devRef .tc main_v59) = params P c) : θ_run defs (onTc (τ := τ) (main (F := F))) ⟨m, fun _ => 0, ρ⟩ (fun r => (∀ c : Dev nD,
      (r.2.mem ((c : Thread nD τ).loc main_arg0) = m ((c : Thread nD τ).loc main_arg0)
        ∧ r.2.mem ((c : Thread nD τ).loc main_arg1) = m ((c : Thread nD τ).loc main_arg1))
      ∧ r.2.mem ((c : Thread nD τ).loc main_v60) = P.final (inputs m) c) ∧ r.2.sem = fun _ => 0) := by
  refine Pipeline.θ_run_regions_kit_dev_sems (pcfgs (F := F)) adm (pdats P (inputs m) (V5 m)) () cellOf_inj EP defs₀ 𝒱₀ L lv m ρ main
    (segs m 𝒱₀ L lv (Ride P m) () (pdats P (inputs m) (V5 m)) (reg P m hpar))
    (fun c Q => by
      rewrite [main_chain c, Pipeline.Seg.run_eq_chain,
        show (segs m 𝒱₀ L lv (Ride P m) () (pdats P (inputs m) (V5 m)) (reg P m hpar) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ P) L_of_ne (G (F := F)) (u₀ (F := F)) ?hu
    (T₀ := Launched P m)
    (Tₙ := fun c => iprop(StableHlo.held (c : Thread nD τ) (Pipeline.ucRefs τ sig) (After P (inputs m) (V5 m) c) ∗ semVal (barCell c) 0))
    (hch := fun c => ⟨.rfl, .rfl, .rfl, .rfl, .rfl, ?hin, ?hout⟩)
    (hinit := init P m ρ)
    (QY := fun c s => (∀ b ∈ Pipeline.ucRefs τ sig, s.mem ((c : Thread nD τ).1, b) = After P (inputs m) (V5 m) c b) ∧ s.sem (barCell c) = 0)
    (hfin := fun c s' => ?hfin) (hQ := fun s h hs => ⟨fun c => ?hres, ?hsem⟩)
  case hu =>
    unfold u₀ G
    iintro Hu
    ihave H := (ownU_pair _ _) $$ Hu
    icases H with ⟨HP, HX⟩
    imodintro
    isplitl [HP]; · iexact HP
    rw [bigSep_atZero]; iexact HX
  case hin => exact region_in P (inputs m) (V5 m) hpar (V5_arg0 m) c
  case hout =>
    refine (region_out P (inputs m) (V5 m) hpar (V5_arg0 m) c).trans ?_
    iintro ⟨Hh, Hb, HO⟩
    isplitr [HO]
    · isplitl [Hh] <;> iassumption
    · iexact HO
  case hfin =>
    unfold StableHlo.held
    iintro ⟨⟨Hh, Hb⟩, HSI⟩
    icombine HSI Hb gives %hb
    ihave Hr := (pointsTo_read_all (Pipeline.ucRefs τ sig) (fun b => ((c : Thread nD τ).1, b)) (After P (inputs m) (V5 m) c) s') $$ [Hh HSI]
    · isplitl [Hh] <;> iassumption
    icases Hr with ⟨%h, HSI⟩
    imodintro
    isplitr
    · ipureintro
      exact ⟨h, by simpa using hb⟩
    · iexact HSI
  case hres =>
    have hm (r : Ref sig .tc) (hr : r.isScoped = false) := (h c).1 (Proc.devRef .tc r) (Finset.mem_filter.mpr ⟨StableHlo.devRef_mem_tcRefs r, by simpa using hr⟩)
    exact ⟨⟨(hm main_arg0 (by decide)).trans ((after_of P (inputs m) (V5 m) c main_arg0 (by decide)).trans (V5_arg0 m c)),
      (hm main_arg1 (by decide)).trans ((after_of P (inputs m) (V5 m) c main_arg1 (by decide)).trans (V5_arg1 m c))⟩,
      (hm main_v60 (by decide)).trans (after_at P (inputs m) (V5 m) c)⟩
  case hsem =>
    exact sem_eq_zero hs fun c sm hsm => by
      obtain rfl := unscoped_only sm hsm
      exact (h c).2

end Cert.Move

end
-- ==== Proof.Values.lean ====
/- What the host computes before the region, as functions of the routing table alone. -/
module

public import proofs.«01_k».proof.Proof.Segment
public import Idealize.ShloMosaic.Lib.StableHlo.RunClose

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The host's pieces -/

/-- The device's number, as the host computes it. -/
def myWord (c : Dev nD) : IVec S_ 32 := Host.remui (Host.divui (constantI S_ 32 (Dev.word c)) (constantI S_ 32 1#32)) (constantI S_ 32 32#32)
/-- A negative index counted from the end. -/
def wrap (v : IVec S_ 32) : IVec S_ 32 := select (cmpi .slt v (constantI S_ 32 0#32)) (addi v (constantI S_ 32 32#32)) v
def wrapAll (x : IVec S32 32) : IVec S32 32 :=
  select (cmpi .slt x (broadcastInDim S32 ![] bcast_S_S32 (constantI S_ 32 0#32))) (addi x (broadcastInDim S32 ![] bcast_S_S32 (constantI S_ 32 32#32))) x
/-- One entry of a table over the devices, or over pairs of them. -/
def at1 (x : IVec S32 32) (v : IVec S_ 32) : IVec S_ 32 :=
  shapeCast S_ (Host.dynamicSlice S1 x (fun k => ((![v] : Fin 1 → IVec S_ 32) k (Shape.Idx.first h_S_)).toInt) sliceFits_S32_S1) shapeCasts_S1_S_
def at2 (x : IVec S32x32 32) (v w : IVec S_ 32) : IVec S_ 32 :=
  shapeCast S_ (Host.dynamicSlice S1x1 x (fun k => ((![v, w] : Fin 2 → IVec S_ 32) k (Shape.Idx.first h_S_)).toInt) sliceFits_S32x32_S1x1) shapeCasts_S1x1_S_

/-- The table of intermediate devices. -/
def midTable : IVec S32x32 32 := fun i => lit0 (S32x32.rowMajor i)
/-- Every device's intermediate device. -/
def midRow (pi : IVec S32 32) : IVec S32 32 :=
  Host.gather gather_S32x32_S32x2_S32_n_01_n_n_01_1_11 midTable
    (concatenate S32x2 1 [⟨S32x1, broadcastInDim S32x1 ![0] bcast_S32_S32x1_0 (wrapAll (iotaInDim S32 32 0))⟩,
      ⟨S32x1, broadcastInDim S32x1 ![0] bcast_S32_S32x1_0 (wrapAll pi)⟩] concatenates_S32x1_S32x1_S32x2_d1)
/-- Which devices' intermediate device is this one. -/
def hits (c : Dev nD) (pi : IVec S32 32) : IVec S32 1 := cmpi .eq (midRow pi) (broadcastInDim S32 ![] bcast_S_S32 (myWord c))
def firstHit (x : IVec S32 1) : IVec S_ 32 := fun j =>
  (Host.reduce2 reducer_argmax_i1_i32 x (iotaInDim S32 32 0) (constantI S_ 1 0#1) (constantI S_ 32 0#32) reducesTo_S32_S_d0 h_S_ j).2
def order (pi : IVec S32 32) : IVec S32 32 := (Host.sort2 S32 0 comparator_i32_i32_d0 pi (iotaInDim S32 32 0)).2

/-- The four parameters. -/
def par0 (c : Dev nD) (pi : IVec S32 32) : IVec S_ 32 := at2 midTable (wrap (myWord c)) (wrap (at1 pi (wrap (myWord c))))
def par2 (c : Dev nD) (pi : IVec S32 32) : IVec S_ 32 := firstHit (hits c pi)
def par1 (c : Dev nD) (pi : IVec S32 32) : IVec S_ 32 := at1 pi (wrap (par2 c pi))
def par3 (c : Dev nD) (pi : IVec S32 32) : IVec S_ 32 := at2 midTable (wrap (at1 (order pi) (wrap (myWord c)))) (wrap (myWord c))

/-! ## The stretches -/

abbrev table : IVec S32 32 := m ((c : Thread nD τ).loc main_arg1)

theorem V1_v4 : V1 m c (Proc.devRef .tc main_v4) = myWord c := by after_results_simp_entrywise; rfl
theorem V1_c : V1 m c (Proc.devRef .tc main_c) = midTable := by after_results_simp_entrywise; rfl
set_option maxHeartbeats 2000000 in
theorem V1_v17 : V1 m c (Proc.devRef .tc main_v17) = par0 c (table m c) := by
  unfold par0 at2 at1 wrap myWord midTable table
  after_results_simp_entrywise
  rfl
theorem V1_v34 : V1 m c (Proc.devRef .tc main_v34) = hits c (table m c) := by after_results_simp_entrywise; rfl

theorem V2_v35 : V2 m c (Proc.devRef .tc main_v35) = par2 c (table m c) := by
  show StableHlo.after hostOps0_1 (V1 m c) (Proc.devRef .tc main_v35) = _
  have h := V1_v34 m c
  generalize V1 m c = V at h ⊢
  after_results_simp_entrywise
  rw [h]
  rfl

theorem V3_v40 : V3 m c (Proc.devRef .tc main_v40) = par1 c (table m c) := by
  show StableHlo.after hostOps0_2 (V2 m c) (Proc.devRef .tc main_v40) = _
  have h := V2_v35 m c
  have h' : V2 m c (Proc.devRef .tc main_arg1) = table m c := by
    rw [V2_of m c main_arg1 (by decide), V1_of m c main_arg1 (by decide)]
  generalize V2 m c = V at h h' ⊢
  after_results_simp_entrywise
  rw [h, h']
  rfl

theorem V4_v41 : V4 m c (Proc.devRef .tc main_v41) = order (table m c) := by
  show StableHlo.after hostOps0_3 (V3 m c) (Proc.devRef .tc main_v41) = _
  have h' : V3 m c (Proc.devRef .tc main_arg1) = table m c := by
    rw [V3_of m c main_arg1 (by decide), V2_of m c main_arg1 (by decide), V1_of m c main_arg1 (by decide)]
  generalize V3 m c = V at h' ⊢
  after_results_simp_entrywise
  rw [h']
  rfl

/-- One parameter as a vector of one. -/
def single (v : IVec S_ 32) : IVec S1 32 := broadcastInDim S1 ![] bcast_S_S1 v

/-- Four parameters, one after the other. -/
def pack (a b d e : IVec S1 32) : IVec S4 32 :=
  concatenate S4 0 [⟨S1, a⟩, ⟨S1, b⟩, ⟨S1, d⟩, ⟨S1, e⟩] concatenates_S1_S1_S1_S1_S4_d0

theorem pack_eq {a b d e : (⟨S1, .i32⟩ : BufTy).Contents (Elt F)} {a' b' d' e' : IVec S1 32} (ha : a = a') (hb : b = b') (hd : d = d') (he : e = e') :
    (concatenate S4 0 [⟨S1, a⟩, ⟨S1, b⟩, ⟨S1, d⟩, ⟨S1, e⟩] concatenates_S1_S1_S1_S1_S4_d0 : (⟨S4, .i32⟩ : BufTy).Contents (Elt F))
      = pack a' b' d' e' := by
  subst ha hb hd he; rfl

theorem V5_v59 : V5 m c (Proc.devRef .tc main_v59)
    = pack (single (par0 c (table m c))) (single (par1 c (table m c))) (single (par2 c (table m c))) (single (par3 c (table m c))) := by
  show StableHlo.after hostOps0_4 (V4 m c) (Proc.devRef .tc main_v59) = _
  have h0 : V4 m c (Proc.devRef .tc main_v17) = par0 c (table m c) := by
    rw [V4_of m c main_v17 (by decide), V3_of m c main_v17 (by decide), V2_of m c main_v17 (by decide), V1_v17]
  have h1 : V4 m c (Proc.devRef .tc main_v40) = par1 c (table m c) := by
    rw [V4_of m c main_v40 (by decide), V3_v40]
  have h2 : V4 m c (Proc.devRef .tc main_v35) = par2 c (table m c) := by
    rw [V4_of m c main_v35 (by decide), V3_of m c main_v35 (by decide), V2_v35]
  have h3 : V4 m c (Proc.devRef .tc main_v4) = myWord c := by
    rw [V4_of m c main_v4 (by decide), V3_of m c main_v4 (by decide), V2_of m c main_v4 (by decide), V1_v4]
  have h4 : V4 m c (Proc.devRef .tc main_c) = midTable := by
    rw [V4_of m c main_c (by decide), V3_of m c main_c (by decide), V2_of m c main_c (by decide), V1_c]
  have h5 := V4_v41 m c
  generalize V4 m c = V at h0 h1 h2 h3 h4 h5 ⊢
  after_results_simp_entrywise
  dsimp only [Matrix.cons_val]
  refine pack_eq (F := F) ?_ ?_ ?_ ?_
  · after_results_simp_entrywise; rw [h0]; rfl
  · after_results_simp_entrywise; rw [h1]; rfl
  · after_results_simp_entrywise; rw [h2]; rfl
  · after_results_simp_entrywise; rw [h3, h4, h5]; rfl

end Cert.Move

end
-- ==== Proof.Route.lean ====
/- The routing table rolled by 17, and the plan of moves it asks for. -/
module

public import proofs.«01_k».proof.Proof.Values

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The routing table rolled by 17 -/

/-- Where device `s`'s block goes in the end, and where it stops on the way. -/
def roll : Equiv.Perm (Dev nD) where
  toFun s := ⟨(s.val + 15) % 32, Nat.mod_lt _ (by decide)⟩
  invFun d := ⟨(d.val + 17) % 32, Nat.mod_lt _ (by decide)⟩
  left_inv := by decide +kernel
  right_inv := by decide +kernel

/-- The stop of device `s`'s block: in `s`'s own group of eight, at the place its destination has in its group. -/
def stop : Equiv.Perm (Dev nD) where
  toFun s := ⟨8 * (s.val / 8) + (s.val + 7) % 8, by have := s.isLt; change s.val < 32 at this; show _ < 32; omega⟩
  invFun d := ⟨8 * (d.val / 8) + (d.val + 1) % 8, by have := d.isLt; change d.val < 32 at this; show _ < 32; omega⟩
  left_inv := by decide +kernel
  right_inv := by decide +kernel

/-- The plan of moves: to the stop, then on to the destination. -/
def rolled : Plan where
  mid := stop
  fwd := stop.symm.trans roll

/-- The routing table. -/
def tab : IVec S32 32 := fun i => word (roll ⟨(i 0).val, (i 0).isLt⟩)

/-- The index of device `d` in a table over the devices. -/
def at_ (d : Dev nD) : S32.Idx := fun k => ⟨d.val, by revert k d; decide +kernel⟩

theorem at_eq (i : S32.Idx) : at_ ⟨(i 0).val, (i 0).isLt⟩ = i := by
  funext k; match k with | ⟨0, _⟩ => rfl

abbrev o : S_.Idx := Shape.Idx.first h_S_

set_option maxHeartbeats 4000000 in
theorem t0 : ∀ c : Dev nD, par0 c tab o = word (rolled.dst 0 c) := by decide +kernel
set_option maxHeartbeats 4000000 in
theorem t2 : ∀ c : Dev nD, par2 c tab o = word (rolled.dst 2 c) := by decide +kernel
set_option maxHeartbeats 4000000 in
theorem t1 : ∀ c : Dev nD, par1 c tab o = word (rolled.dst 1 c) := by decide +kernel
set_option maxHeartbeats 4000000 in
theorem tord : ∀ c : Dev nD, order tab (at_ c) = word (roll.symm c) := by decide +kernel
set_option maxHeartbeats 4000000 in
theorem t3 : ∀ c : Dev nD, par3 c tab o = word (rolled.dst 3 c) := by decide +kernel

theorem all_o (j : S_.Idx) : j = o := funext fun k => k.elim0

theorem pack_words : ∀ (c : Dev nD) (k : Fin 4), pack (single fun _ => word (rolled.dst 0 c)) (single fun _ => word (rolled.dst 1 c))
    (single fun _ => word (rolled.dst 2 c)) (single fun _ => word (rolled.dst 3 c)) (fun a => ⟨k.val, by revert k a; decide +kernel⟩) = word (rolled.dst k c) := by
  decide +kernel

/-- The host computes the plan's parameters. -/
theorem params_eq (m : (ℓ : Loc nD τ sig) → Buf (Elt F) ℓ) (c : Dev nD) (h : table m c = tab) :
    V5 m c (Proc.devRef .tc main_v59) = params rolled c := by
  rw [V5_v59, h, show par0 c tab = fun _ => word (rolled.dst 0 c) from funext fun j => all_o j ▸ t0 c,
    show par1 c tab = fun _ => word (rolled.dst 1 c) from funext fun j => all_o j ▸ t1 c,
    show par2 c tab = fun _ => word (rolled.dst 2 c) from funext fun j => all_o j ▸ t2 c,
    show par3 c tab = fun _ => word (rolled.dst 3 c) from funext fun j => all_o j ▸ t3 c]
  funext i
  have e : i = fun a => ⟨(i 0).val, by match a with | ⟨0, _⟩ => exact (i 0).isLt⟩ := by
    funext a; match a with | ⟨0, _⟩ => rfl
  rw [e]
  exact pack_words c ⟨(i 0).val, (i 0).isLt⟩

end Cert.Move

end
-- ==== Proof.Rows.lean ====
/- The rows the reference gathers, and where the plan brings each. -/
module

public import proofs.«01_k».proof.Proof.Route
public import proofs.«01_k».proof.Proof.Gen.ReferenceIdeal
public import Idealize.ShloMosaic.Lib.Layout

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rows the reference gathers -/

abbrev RS : Shape := Cert.ReferenceIdeal.S32x1024x1024
abbrev gather : GatherDims RS Cert.ReferenceIdeal.S32x1 RS :=
  Cert.ReferenceIdeal.gather_S32x1024x1024_S32x1_S32x1024x1024_12_0_n_n_0_1_110241024

/-- The row numbers: the order that sorts the table, a negative one counted from the end. -/
def rows (pi : IVec Cert.ReferenceIdeal.S32 32) : IVec Cert.ReferenceIdeal.S32x1 32 :=
  broadcastInDim Cert.ReferenceIdeal.S32x1 ![0] Cert.ReferenceIdeal.Gen.bcast_S32_S32x1_0
    (select
      (cmpi .slt (Host.sort2 Cert.ReferenceIdeal.S32 0 Cert.ReferenceIdeal.comparator_i32_i32_d0 pi (iotaInDim Cert.ReferenceIdeal.S32 32 0)).2
        (broadcastInDim Cert.ReferenceIdeal.S32 ![] Cert.ReferenceIdeal.Gen.bcast_S_S32 (constantI Cert.ReferenceIdeal.S_ 32 0#32)))
      (addi (Host.sort2 Cert.ReferenceIdeal.S32 0 Cert.ReferenceIdeal.comparator_i32_i32_d0 pi (iotaInDim Cert.ReferenceIdeal.S32 32 0)).2
        (broadcastInDim Cert.ReferenceIdeal.S32 ![] Cert.ReferenceIdeal.Gen.bcast_S_S32 (constantI Cert.ReferenceIdeal.S_ 32 32#32)))
      (Host.sort2 Cert.ReferenceIdeal.S32 0 Cert.ReferenceIdeal.comparator_i32_i32_d0 pi (iotaInDim Cert.ReferenceIdeal.S32 32 0)).2)

/-- The index of row number `d`. -/
def row_ (d : Dev nD) : Cert.ReferenceIdeal.S32x1.Idx
  | ⟨0, _⟩ => (d : Fin 32)
  | ⟨1, _⟩ => (0 : Fin 1)

theorem rows_tab : ∀ d : Dev nD, (rows tab (row_ d)).toInt.toNat = (roll.symm d).val := by decide +kernel

/-- The place the reference reads for a place of its result. -/
theorem reads (idx : IVec Cert.ReferenceIdeal.S32x1 32) (d : Dev nD) (j : RS.Idx) (hj : (j 0).val = d.val) :
    (gather.operandIdx j idx 0).val = min (idx (row_ d)).toInt.toNat 31 ∧ (gather.operandIdx j idx 1).val = (j 1).val
      ∧ (gather.operandIdx j idx 2).val = (j 2).val := by
  have hs : ∀ k, gather.siIdx j k = row_ d := by
    intro k
    funext b
    match b with
    | ⟨0, _⟩ => exact Fin.ext hj
    | ⟨1, _⟩ => exact Fin.ext (by have := k.isLt; change k.val < 1 at this; show k.val = 0; omega)
  refine ⟨?_, ?_, ?_⟩
  · show gather.start j idx 0 + 0 + 0 = _
    unfold GatherDims.start
    rw [dif_pos (by decide), hs]
    rfl
  · show 0 + 0 + (j 1).val = _
    omega
  · show 0 + 0 + (j 2).val = _
    omega

theorem comes_from (c : Dev nD) : rolled.mid.symm (rolled.fwd.symm c) = roll.symm c := by
  show stop.symm (stop (roll.symm c)) = _
  exact stop.symm_apply_apply _

abbrev XS : Shape := ⟨3, ![1, 1024, 1024]⟩

/-- A gather of rows, on the row of one device: the block of the device the row's number names. -/
theorem place_eq (h : Layout.Tiles XS RS 0 32) (idx : IVec Cert.ReferenceIdeal.S32x1 32) (c d : Dev nD)
    (hd : (idx (row_ c)).toInt.toNat = d.val) (i : XS.Idx) : gather.operandIdx (h.idx c i) idx = h.idx d i := by
  have hi : (i 0).val = 0 := by have := (i 0).isLt; change (i 0).val < 1 at this; omega
  obtain ⟨e0, e1, e2⟩ := reads idx c (h.idx c i) (by show c.val * 1 + (i 0).val = _; omega)
  funext a
  apply Fin.ext
  match a with
  | ⟨0, _⟩ =>
    refine e0.trans ?_
    rw [hd]
    have := d.isLt
    change d.val < 32 at this
    show _ = d.val * 1 + (i 0).val
    omega
  | ⟨1, _⟩ => exact e1
  | ⟨2, _⟩ => exact e2

/-- Each device's part of what the reference computes is what the plan brings it. -/
theorem result_eq (x : RS.Idx → Elt F .f32) (c : Dev nD) (h : Layout.Tiles XS RS 0 32) :
    Layout.block XS RS 0 32 c (Host.gather gather x (rows tab)) h = rolled.final (fun d => Layout.block XS RS 0 32 d x h) c := by
  unfold Plan.final Plan.held
  rw [comes_from]
  have hr := rows_tab c
  generalize rows tab = idx at hr ⊢
  generalize roll.symm c = d at hr ⊢
  funext i
  rw [Layout.block_apply]
  exact congrArg x (place_eq h idx c d hr i)

end Cert.Move

end
-- ==== Proof.Same.lean ====
/- The kernel as printed and its idealization are one program: the same host stretches, the same body, hence equal
   body tables and equal mains. -/
module

public import proofs.«01_k».proof.Proof.Gen.Kernel.Launch
public import proofs.«01_k».proof.Proof.Gen.KernelIdeal.Launch

@[expose] public section

noncomputable section

namespace Cert.Move

open Idealize.ShloMosaic Idealize.SL.Sem

variable {F : FTy → Type} [FloatOps F]

set_option maxHeartbeats 4000000

theorem same_bodies : Cert.Kernel.defs₀ (F := F) = Cert.KernelIdeal.defs₀ (F := F) := by
  refine congrArg Defs.onTc (funext fun l => funext fun a => ?_)
  match l, a with
  | 0, (t, s) => exact rfl

theorem same_defs : Cert.Kernel.defs (F := F) = Cert.KernelIdeal.defs (F := F) :=
  congrArg (Pipeline.defs Cert.Kernel.pcfgs) same_bodies

theorem same_ops0 (c : Dev Cert.Kernel.nD) : Cert.Kernel.Gen.hostOps0 (F := F) c = Cert.KernelIdeal.Gen.hostOps0 (F := F) c := (rfl)
theorem same_ops1 : Cert.Kernel.Gen.hostOps0_1 (F := F) = Cert.KernelIdeal.Gen.hostOps0_1 (F := F) := (rfl)
theorem same_ops2 : Cert.Kernel.Gen.hostOps0_2 (F := F) = Cert.KernelIdeal.Gen.hostOps0_2 (F := F) := (rfl)
theorem same_ops3 : Cert.Kernel.Gen.hostOps0_3 (F := F) = Cert.KernelIdeal.Gen.hostOps0_3 (F := F) := (rfl)
theorem same_ops4 : Cert.Kernel.Gen.hostOps0_4 (F := F) = Cert.KernelIdeal.Gen.hostOps0_4 (F := F) := (rfl)

theorem same_main : Cert.Kernel.main (F := F) = Cert.KernelIdeal.main (F := F) := by
  funext c
  refine (Cert.Kernel.Gen.main_chain (F := F) c).trans ?_
  refine Eq.trans ?_ (Cert.KernelIdeal.Gen.main_chain (F := F) c).symm
  rw [same_ops0, same_ops1, same_ops2, same_ops3, same_ops4]

end Cert.Move

end
-- ==== Proof.Table.lean ====
/- A table that meets the precondition. -/
module

public import proofs.«01_k».proof.Proof.Route
public import proofs.«01_k».proof.Pre_rolled_by_17_Kernel
public import proofs.«01_k».proof.Pre_rolled_by_17_ReferenceIdeal

@[expose] public section

set_option maxRecDepth 16384

noncomputable section

namespace Cert.Move

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The precondition -/

instance facts_K : Cert.Pre_rolled_by_17_Kernel.Facts := ⟨by decide⟩
instance facts_R : Cert.Pre_rolled_by_17_ReferenceIdeal.Facts := ⟨by decide⟩

/-- The table the precondition spells. -/
def spelt : IVec S32 32 :=
  Host.remsi (addi (iotaInDim S32 32 0) (broadcastInDim S32 ![] bcast_S_S32 (constantI S_ 32 15#32)))
    (broadcastInDim S32 ![] bcast_S_S32 (constantI S_ 32 32#32))

theorem spelt_at : ∀ d : Dev nD, spelt (at_ d) = tab (at_ d) := by decide +kernel
theorem spelt_eq : spelt = tab := by
  funext i; rw [← at_eq i]; exact spelt_at _

/-- A table that meets the precondition is the identity rolled by 17. -/
theorem tab_of_pre (x : FVec F Cert.Pre_rolled_by_17_Kernel.S1x1024x1024 .f32) (pi : IVec S32 32)
    (h : Cert.Pre_rolled_by_17_Kernel.fn (F := F) x pi = fun _ => 1#1) : pi = tab := by
  rw [← spelt_eq]
  funext i
  have hi : IntOp.cmpi .eq (pi i) (spelt i) = 1#1 := congrFun h i
  generalize spelt i = w at hi ⊢
  by_contra hne
  rw [show IntOp.cmpi .eq (pi i) w = 0#1 by
    show BitVec.ofBool (pi i == w) = _
    rw [beq_eq_false_iff_ne.2 hne]; rfl] at hi
  exact absurd hi (by decide)

end Cert.Move

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Rows
public import proofs.«01_k».proof.Proof.Same
public import proofs.«01_k».proof.Proof.Table
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run under the precondition, whatever the floats are. -/
theorem run_rolled {F : FTy → Type} [FloatOps F] (m : (ℓ : Loc Cert.KernelIdeal.nD Cert.KernelIdeal.τ Cert.KernelIdeal.sig) → Buf (Elt F) ℓ)
    (ρ : Dev Cert.KernelIdeal.nD → PrngReg)
    (h : ∀ c : Dev Cert.KernelIdeal.nD, Cert.Pre_rolled_by_17_Kernel.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = (fun _ => 1#1)) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        (r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v60)
            = Cert.Move.rolled.final (Cert.Move.inputs m) c) ∧ r.2.sem = fun _ => 0) :=
  Cert.Move.run_main (F := F) Cert.Move.rolled m ρ fun c => Cert.Move.params_eq m c (Cert.Move.tab_of_pre _ _ (h c))

theorem frame_kernel_ideal : Cert.quiescent_KernelIdeal := fun m g hp =>
  (θ_run Cert.KernelIdeal.defs _ _).mono (fun _ h => ⟨fun c => (h.1 c).1, h.2⟩) (run_rolled (F := Ideal) m g hp)

set_option maxHeartbeats 4000000 in
/-- The kernel as printed is the same program (`same_defs`, `same_main`), so the same run serves it. -/
theorem frame_kernel : Cert.quiescent_Kernel := fun m g hp => by
  rw [Cert.Move.same_defs, Cert.Move.same_main]
  exact (θ_run Cert.KernelIdeal.defs _ _).mono (fun _ h => ⟨fun c => (h.1 c).1, h.2⟩) (run_rolled (F := Bits) m g hp)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_rolled_by_17_ReferenceIdeal := fun m g _ => frame_reference m g trivial

theorem value : Cert.algebraic_KernelIdeal_ReferenceIdeal := fun m g m' g' hp hin => by
  have ht : m' (((0 : Dev Cert.ReferenceIdeal.nD).tc : Thread Cert.ReferenceIdeal.nD Cert.ReferenceIdeal.τ).loc Cert.ReferenceIdeal.main_arg1) = Cert.Move.tab :=
    ((hin 0).2).symm.trans (Cert.Move.tab_of_pre _ _ (hp 0))
  have hx : Cert.Move.inputs m = fun c => Layout.block ⟨3, ![1, 1024, 1024]⟩ ⟨3, ![32, 1024, 1024]⟩ 0 32 c
      (m' (((0 : Dev Cert.ReferenceIdeal.nD).tc : Thread Cert.ReferenceIdeal.nD Cert.ReferenceIdeal.τ).loc Cert.ReferenceIdeal.main_arg0)) :=
    funext fun c => (hin c).1
  refine ⟨Host.gather Cert.Move.gather (m' (((0 : Dev Cert.ReferenceIdeal.nD).tc : Thread Cert.ReferenceIdeal.nD Cert.ReferenceIdeal.τ).loc Cert.ReferenceIdeal.main_arg0))
    (Cert.Move.rows Cert.Move.tab), ?_, ?_⟩
  · refine (θ_run Cert.KernelIdeal.defs _ _).mono (fun _ h c => ⟨?_, (h.1 c).1.1, (h.1 c).1.2⟩) (run_rolled (F := Ideal) m g hp)
    rw [(h.1 c).2, hx]
    exact (Cert.Move.result_eq _ c (by decide)).symm
  · refine (θ_run Cert.ReferenceIdeal.defs _ _).mono (fun _ h => ⟨?_, (h 0).2⟩) (Cert.ReferenceIdeal.Value.run (F := Ideal) m' g')
    rw [(h 0).1, ht]
    rfl

theorem claim : Cert.Claim := ⟨Cert.Kernel.Gen.facts, Cert.KernelIdeal.Gen.facts, Cert.ReferenceIdeal.Gen.facts, Cert.Move.facts_K, Cert.Move.facts_R,
  frame_kernel, frame_kernel_ideal, frame_reference, frame_reference_pre, trivial, value⟩

end Cert.Proof

end
